-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x2048x768 : Shape := ⟨3, ![1, 2048, 768]⟩
abbrev S768x768 : Shape := ⟨2, ![768, 768]⟩
abbrev S768 : Shape := ⟨1, ![768]⟩
abbrev S_ : Shape := ⟨0, ![]⟩

class Facts : Prop where
  bcast_S_S1x2048x768 : S_.BroadcastsInDim S1x2048x768 (![] : Fin 0 → Fin S1x2048x768.rank)
  reducesTo_S1x2048x768_S_d0_1_2 : S1x2048x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S1x2048x768 .f32) (main_arg1 : FVec F S768x768 .f32) (main_arg2 : FVec F S768 .f32) (main_arg3 : FVec F S768x768 .f32) (main_arg4 : FVec F S768 .f32) (main_arg5 : FVec F S768x768 .f32) (main_arg6 : FVec F S768 .f32) (main_arg7 : FVec F S768x768 .f32) (main_arg8 : FVec F S768 .f32) : IVec S_ 1 :=
  let main_v0 : FVec F S1x2048x768 .f32 := Host.absf main_arg0
  let main_cst : FVec F S_ .f32 := constant S_ .f32 0x7F800000#32
  let main_v1 : FVec F S1x2048x768 .f32 := broadcastInDim S1x2048x768 ![] bcast_S_S1x2048x768 main_cst
  let main_v2 : IVec S1x2048x768 1 := cmpf .olt main_v0 main_v1
  let main_c : IVec S_ 1 := constantI S_ 1 1#1
  let main_v3 : IVec S_ 1 := (fun x v => Host.reduce IntOp.andi x v reducesTo_S1x2048x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_v13 main_v16
-- ==== Kernel.lean ====
abbrev S1x2048x768 : Shape := ⟨3, ![1, 2048, 768]⟩
abbrev S768x768 : Shape := ⟨2, ![768, 768]⟩
abbrev S768 : Shape := ⟨1, ![768]⟩
abbrev S2048x768 : Shape := ⟨2, ![2048, 768]⟩
abbrev S768x1 : Shape := ⟨2, ![768, 1]⟩
abbrev S1x768 : Shape := ⟨2, ![1, 768]⟩
abbrev S256x768 : Shape := ⟨2, ![256, 768]⟩
abbrev S256x1 : Shape := ⟨2, ![256, 1]⟩
abbrev S768x2048 : Shape := ⟨2, ![768, 2048]⟩
abbrev S256x2048 : Shape := ⟨2, ![256, 2048]⟩
abbrev S64x2048 : Shape := ⟨2, ![64, 2048]⟩
abbrev S64x16x128 : Shape := ⟨3, ![64, 16, 128]⟩
abbrev S64x16 : Shape := ⟨2, ![64, 16]⟩
abbrev S16x2048 : Shape := ⟨2, ![16, 2048]⟩
abbrev S2048 : Shape := ⟨1, ![2048]⟩
abbrev S1x2048 : Shape := ⟨2, ![1, 2048]⟩
abbrev S128x128 : Shape := ⟨2, ![128, 128]⟩
abbrev S64x128 : Shape := ⟨2, ![64, 128]⟩
abbrev S128 : Shape := ⟨1, ![128]⟩
abbrev S1x128 : Shape := ⟨2, ![1, 128]⟩
abbrev S512x4 : Shape := ⟨2, ![512, 4]⟩
abbrev S64x1920 : Shape := ⟨2, ![64, 1920]⟩
abbrev S64x512 : Shape := ⟨2, ![64, 512]⟩
abbrev S512x1920 : Shape := ⟨2, ![512, 1920]⟩
abbrev S4x1920 : Shape := ⟨2, ![4, 1920]⟩
abbrev S128x1920 : Shape := ⟨2, ![128, 1920]⟩
abbrev S1x1920 : Shape := ⟨2, ![1, 1920]⟩
abbrev S64x1408 : Shape := ⟨2, ![64, 1408]⟩
abbrev S512x1408 : Shape := ⟨2, ![512, 1408]⟩
abbrev S4x1408 : Shape := ⟨2, ![4, 1408]⟩
abbrev S128x1408 : Shape := ⟨2, ![128, 1408]⟩
abbrev S1x1408 : Shape := ⟨2, ![1, 1408]⟩
abbrev S64x896 : Shape := ⟨2, ![64, 896]⟩
abbrev S512x896 : Shape := ⟨2, ![512, 896]⟩
abbrev S4x896 : Shape := ⟨2, ![4, 896]⟩
abbrev S128x896 : Shape := ⟨2, ![128, 896]⟩
abbrev S1x896 : Shape := ⟨2, ![1, 896]⟩
abbrev S64x384 : Shape := ⟨2, ![64, 384]⟩
abbrev S512x384 : Shape := ⟨2, ![512, 384]⟩
abbrev S4x384 : Shape := ⟨2, ![4, 384]⟩
abbrev S128x384 : Shape := ⟨2, ![128, 384]⟩
abbrev S1x384 : Shape := ⟨2, ![1, 384]⟩

abbrev nBuf : Space → Nat
  | .hbm => 16
  | .vmem => 17
  | .smem => 0
  | _ => 0

abbrev bufTy : (tb : Table) → Fin (tcTables nBuf tb) → BufTy
  | .hbm, ⟨0, _⟩ => ⟨S1x2048x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S768, .f32⟩
  | .hbm, ⟨9, _⟩ => ⟨S2048x768, .f32⟩
  | .hbm, ⟨10, _⟩ => ⟨S768x1, .f32⟩
  | .hbm, ⟨11, _⟩ => ⟨S768x1, .f32⟩
  | .hbm, ⟨12, _⟩ => ⟨S768x1, .f32⟩
  | .hbm, ⟨13, _⟩ => ⟨S1x768, .f32⟩
  | .hbm, ⟨14, _⟩ => ⟨S2048x768, .f32⟩
  | .hbm, ⟨15, _⟩ => ⟨S1x2048x768, .f32⟩
  | .local _ .vmem, ⟨0, _⟩ => ⟨S2048x768, .f32⟩
  | .local _ .vmem, ⟨1, _⟩ => ⟨S256x768, .f32⟩
  | .local _ .vmem, ⟨2, _⟩ => ⟨S256x768, .f32⟩
  | .local _ .vmem, ⟨3, _⟩ => ⟨S256x1, .f32⟩
  | .local _ .vmem, ⟨4, _⟩ => ⟨S256x1, .f32⟩
  | .local _ .vmem, ⟨5, _⟩ => ⟨S256x768, .f32⟩
  | .local _ .vmem, ⟨6, _⟩ => ⟨S256x768, .f32⟩
  | .local _ .vmem, ⟨7, _⟩ => ⟨S256x1, .f32⟩
  | .local _ .vmem, ⟨8, _⟩ => ⟨S256x1, .f32⟩
  | .local _ .vmem, ⟨9, _⟩ => ⟨S256x768, .f32⟩
  | .local _ .vmem, ⟨10, _⟩ => ⟨S256x768, .f32⟩
  | .local _ .vmem, ⟨11, _⟩ => ⟨S256x1, .f32⟩
  | .local _ .vmem, ⟨12, _⟩ => ⟨S256x1, .f32⟩
  | .local _ .vmem, ⟨13, _⟩ => ⟨S768x768, .f32⟩
  | .local _ .vmem, ⟨14, _⟩ => ⟨S1x768, .f32⟩
  | .local _ .vmem, ⟨15, _⟩ => ⟨S2048x768, .f32⟩
  | .local _ .vmem, ⟨16, _⟩ => ⟨S768x2048, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![3], ![false]⟩

def k0_cond1 (i : grid0.Coords) : BitVec 1 :=
  let arg0 : BitVec 32 := BitVec.ofNat 32 (i 0).val
  let c2_i32 : BitVec 32 := 2#32
  let v2197 : BitVec 1 := Scalar.cmpi .slt arg0 c2_i32
  let v2198 : BitVec 32 := Scalar.extui v2197
  let c0_i32_499 : BitVec 32 := 0#32
  let v2199 : BitVec 1 := Scalar.cmpi .ne v2198 c0_i32_499
  v2199

def k0_off1 (i : grid0.Coords) : Fin 2 → Nat :=
  let arg0 : BitVec 32 := BitVec.ofNat 32 (i 0).val
  let c256_i32 : BitVec 32 := 256#32
  let v2203 : BitVec 32 := Scalar.muli arg0 c256_i32
  let v2204 : Index := Scalar.indexCast v2203
  let c0_502 : Index := 0#32
  ![v2204.toNat, 0]
def k0_cond2 (i : grid0.Coords) : BitVec 1 :=
  let arg0 : BitVec 32 := BitVec.ofNat 32 (i 0).val
  let c2_i32_500 : BitVec 32 := 2#32
  let v2200 : BitVec 1 := Scalar.cmpi .eq arg0 c2_i32_500
  let v2201 : BitVec 32 := Scalar.extui v2200
  let c0_i32_501 : BitVec 32 := 0#32
  let v2202 : BitVec 1 := Scalar.cmpi .ne v2201 c0_i32_501
  v2202

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S768x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S1x2048x768 : Shape := ⟨3, ![1, 2048, 768]⟩
abbrev S768x768 : Shape := ⟨2, ![768, 768]⟩
abbrev S768 : Shape := ⟨1, ![768]⟩
abbrev S1x1x768 : Shape := ⟨3, ![1, 1, 768]⟩
abbrev S1x2048x12x64 : Shape := ⟨4, ![1, 2048, 12, 64]⟩
abbrev S1x12x2048x64 : Shape := ⟨4, ![1, 12, 2048, 64]⟩
abbrev S1x12x16x128x64 : Shape := ⟨5, ![1, 12, 16, 128, 64]⟩
abbrev S_ : Shape := ⟨0, ![]⟩
abbrev S1x12x16x64 : Shape := ⟨4, ![1, 12, 16, 64]⟩
abbrev S1x12x2048x16 : Shape := ⟨4, ![1, 12, 2048, 16]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S1x1x2048x16 : Shape := ⟨4, ![1, 1, 2048, 16]⟩
abbrev S1x12x2048x3 : Shape := ⟨4, ![1, 12, 2048, 3]⟩
abbrev S1x12x2048x2048 : Shape := ⟨4, ![1, 12, 2048, 2048]⟩
abbrev S1x2048 : Shape := ⟨2, ![1, 2048]⟩
abbrev S2048x2048 : Shape := ⟨2, ![2048, 2048]⟩
abbrev S1x1x2048x2048 : Shape := ⟨4, ![1, 1, 2048, 2048]⟩
abbrev S1x12x2048 : Shape := ⟨3, ![1, 12, 2048]⟩
abbrev S1x12x2048x1 : Shape := ⟨4, ![1, 12, 2048, 1]⟩
abbrev S1x12x2048x16x128 : Shape := ⟨5, ![1, 12, 2048, 16, 128]⟩
abbrev S1x12x2048x16x1 : Shape := ⟨5, ![1, 12, 2048, 16, 1]⟩
abbrev S1x12x16x64x2048 : Shape := ⟨5, ![1, 12, 16, 64, 2048]⟩
abbrev S1x12x2048x16x64 : Shape := ⟨5, ![1, 12, 2048, 16, 64]⟩
abbrev S1x12x2048x3x1 : Shape := ⟨5, ![1, 12, 2048, 3, 1]⟩
abbrev S1x1x1x1x16 : Shape := ⟨5, ![1, 1, 1, 1, 16]⟩
abbrev S1x12x2048x3x16 : Shape := ⟨5, ![1, 12, 2048, 3, 16]⟩

abbrev nBuf : Space → Nat
  | .hbm => 169
  | .vmem => 0
  | .smem => 0
  | _ => 0

abbrev hbmTy0_0 (i : Nat) : BufTy := match i % 128 with
  | 0 => ⟨S1x2048x768, .f32⟩
  | 1 => ⟨S768x768, .f32⟩
  | 2 => ⟨S768, .f32⟩
  | 3 => ⟨S768x768, .f32⟩
  | 4 => ⟨S768, .f32⟩
  | 5 => ⟨S768x768, .f32⟩
  | 6 => ⟨S768, .f32⟩
  | 7 => ⟨S768x768, .f32⟩
  | 8 => ⟨S768, .f32⟩
  | 9 => ⟨S768x768, .f32⟩
  | 10 => ⟨S1x2048x768, .f32⟩
  | 11 => ⟨S1x1x768, .f32⟩
  | 12 => ⟨S1x2048x768, .f32⟩
  | 13 => ⟨S1x2048x768, .f32⟩
  | 14 => ⟨S1x2048x12x64, .f32⟩
  | 15 => ⟨S1x12x2048x64, .f32⟩
  | 16 => ⟨S768x768, .f32⟩
  | 17 => ⟨S1x2048x768, .f32⟩
  | 18 => ⟨S1x1x768, .f32⟩
  | 19 => ⟨S1x2048x768, .f32⟩
  | 20 => ⟨S1x2048x768, .f32⟩
  | 21 => ⟨S1x2048x12x64, .f32⟩
  | 22 => ⟨S1x12x2048x64, .f32⟩
  | 23 => ⟨S768x768, .f32⟩
  | 24 => ⟨S1x2048x768, .f32⟩
  | 25 => ⟨S1x1x768, .f32⟩
  | 26 => ⟨S1x2048x768, .f32⟩
  | 27 => ⟨S1x2048x768, .f32⟩
  | 28 => ⟨S1x2048x12x64, .f32⟩
  | 29 => ⟨S1x12x2048x64, .f32⟩
  | 30 => ⟨S1x12x16x128x64, .f32⟩
  | 31 => ⟨S_, .f32⟩
  | 32 => ⟨S1x12x16x64, .f32⟩
  | 33 => ⟨S_, .f32⟩
  | 34 => ⟨S1x12x16x64, .f32⟩
  | 35 => ⟨S1x12x16x64, .f32⟩
  | 36 => ⟨S1x12x2048x16, .f32⟩
  | 37 => ⟨S2048, .i32⟩
  | 38 => ⟨S_, .i32⟩
  | 39 => ⟨S_, .i32⟩
  | 40 => ⟨S2048, .i32⟩
  | 41 => ⟨S2048, .i32⟩
  | 42 => ⟨S2048, .i32⟩
  | 43 => ⟨S_, .i32⟩
  | 44 => ⟨S2048, .i32⟩
  | 45 => ⟨S2048, .i1⟩
  | 46 => ⟨S2048, .i32⟩
  | 47 => ⟨S2048, .i32⟩
  | 48 => ⟨S_, .i32⟩
  | 49 => ⟨S2048, .i32⟩
  | 50 => ⟨S2048, .i1⟩
  | 51 => ⟨S2048, .i1⟩
  | 52 => ⟨S_, .i32⟩
  | 53 => ⟨S2048, .i32⟩
  | 54 => ⟨S2048, .i32⟩
  | 55 => ⟨S2048, .i32⟩
  | 56 => ⟨S16, .i32⟩
  | 57 => ⟨S2048x1, .i32⟩
  | 58 => ⟨S1x16, .i32⟩
  | 59 => ⟨S2048x16, .i32⟩
  | 60 => ⟨S2048x16, .i32⟩
  | 61 => ⟨S2048x16, .i1⟩
  | 62 => ⟨S1x1x2048x16, .i1⟩
  | 63 => ⟨S_, .f32⟩
  | 64 => ⟨S_, .f32⟩
  | 65 => ⟨S1x12x2048x16, .i1⟩
  | 66 => ⟨S1x12x2048x16, .f32⟩
  | 67 => ⟨S1x12x2048x16, .f32⟩
  | 68 => ⟨S1x12x2048x3, .f32⟩
  | 69 => ⟨S1x12x2048x3, .i32⟩
  | 70 => ⟨S1x12x2048x2048, .f32⟩
  | 71 => ⟨S_, .f32⟩
  | 72 => ⟨S1x12x2048x2048, .f32⟩
  | 73 => ⟨S1x12x2048x2048, .f32⟩
  | 74 => ⟨S2048, .i32⟩
  | 75 => ⟨S2048x1, .i32⟩
  | 76 => ⟨S_, .i32⟩
  | 77 => ⟨S_, .i32⟩
  | 78 => ⟨S2048, .i32⟩
  | 79 => ⟨S2048, .i32⟩
  | 80 => ⟨S2048, .i32⟩
  | 81 => ⟨S_, .i32⟩
  | 82 => ⟨S2048, .i32⟩
  | 83 => ⟨S2048, .i1⟩
  | 84 => ⟨S2048, .i32⟩
  | 85 => ⟨S2048, .i32⟩
  | 86 => ⟨S_, .i32⟩
  | 87 => ⟨S2048, .i32⟩
  | 88 => ⟨S2048, .i1⟩
  | 89 => ⟨S2048, .i1⟩
  | 90 => ⟨S_, .i32⟩
  | 91 => ⟨S2048, .i32⟩
  | 92 => ⟨S2048, .i32⟩
  | 93 => ⟨S2048, .i32⟩
  | 94 => ⟨S1x2048, .i32⟩
  | 95 => ⟨S2048x2048, .i32⟩
  | 96 => ⟨S2048x2048, .i32⟩
  | 97 => ⟨S2048x2048, .i1⟩
  | 98 => ⟨S1x2048, .i32⟩
  | 99 => ⟨S2048x1, .i32⟩
  | 100 => ⟨S2048x2048, .i32⟩
  | 101 => ⟨S2048x2048, .i32⟩
  | 102 => ⟨S2048x2048, .i1⟩
  | 103 => ⟨S2048x2048, .i1⟩
  | 104 => ⟨S1x1x2048x2048, .i1⟩
  | 105 => ⟨S_, .f32⟩
  | 106 => ⟨S_, .f32⟩
  | 107 => ⟨S1x12x2048x2048, .i1⟩
  | 108 => ⟨S1x12x2048x2048, .f32⟩
  | 109 => ⟨S1x12x2048x2048, .f32⟩
  | 110 => ⟨S_, .f32⟩
  | 111 => ⟨S1x12x2048, .f32⟩
  | 112 => ⟨S_, .f32⟩
  | 113 => ⟨S1x12x2048, .f32⟩
  | 114 => ⟨S1x12x2048, .f32⟩
  | 115 => ⟨S1x12x2048x1, .f32⟩
  | 116 => ⟨S1x12x2048x2048, .f32⟩
  | 117 => ⟨S1x12x2048x2048, .f32⟩
  | 118 => ⟨S1x12x2048x2048, .f32⟩
  | 119 => ⟨S_, .f32⟩
  | 120 => ⟨S1x12x2048, .f32⟩
  | 121 => ⟨S1x12x2048x1, .f32⟩
  | 122 => ⟨S1x12x2048x2048, .f32⟩
  | 123 => ⟨S1x12x2048x2048, .f32⟩
  | 124 => ⟨S1x12x2048x64, .f32⟩
  | 125 => ⟨S1x12x2048x16x128, .f32⟩
  | 126 => ⟨S_, .f32⟩
  | 127 => ⟨S1x12x2048x16, .f32⟩
  | _ => ⟨S1x2048x768, .f32⟩

abbrev hbmTy0_1 (i : Nat) : BufTy := match i % 128 with
  | 0 => ⟨S_, .f32⟩
  | 1 => ⟨S1x12x2048x16, .f32⟩
  | 2 => ⟨S1x12x2048x16, .f32⟩
  | 3 => ⟨S1x12x2048x16x1, .f32⟩
  | 4 => ⟨S1x12x2048x16x128, .f32⟩
  | 5 => ⟨S1x12x2048x16x128, .f32⟩
  | 6 => ⟨S1x12x2048x16x128, .f32⟩
  | 7 => ⟨S_, .f32⟩
  | 8 => ⟨S1x12x2048x16, .f32⟩
  | 9 => ⟨S1x12x2048x16x1, .f32⟩
  | 10 => ⟨S1x12x2048x16x128, .f32⟩
  | 11 => ⟨S1x12x2048x16x128, .f32⟩
  | 12 => ⟨S1x12x16x128x64, .f32⟩
  | 13 => ⟨S1x12x16x64x2048, .f32⟩
  | 14 => ⟨S1x12x2048x16x64, .f32⟩
  | 15 => ⟨S1x12x2048x3x1, .i32⟩
  | 16 => ⟨S1x1x1x1x16, .i32⟩
  | 17 => ⟨S1x12x2048x3x16, .i32⟩
  | 18 => ⟨S1x12x2048x3x16, .i32⟩
  | 19 => ⟨S1x12x2048x3x16, .i1⟩
  | 20 => ⟨S1x12x2048x3x16, .f32⟩
  | 21 => ⟨S_, .f32⟩
  | 22 => ⟨S1x12x2048x16, .f32⟩
  | 23 => ⟨S1x16, .i32⟩
  | 24 => ⟨S2048x1, .i32⟩
  | 25 => ⟨S2048x16, .i32⟩
  | 26 => ⟨S2048x16, .i32⟩
  | 27 => ⟨S2048x16, .i1⟩
  | 28 => ⟨S2048x16, .f32⟩
  | 29 => ⟨S1x1x2048x16, .f32⟩
  | 30 => ⟨S1x12x2048x16, .f32⟩
  | 31 => ⟨S1x12x2048x16, .f32⟩
  | 32 => ⟨S1x12x2048x64, .f32⟩
  | 33 => ⟨S1x12x2048x64, .f32⟩
  | 34 => ⟨S1x2048x12x64, .f32⟩
  | 35 => ⟨S1x2048x768, .f32⟩
  | 36 => ⟨S768x768, .f32⟩
  | 37 => ⟨S1x2048x768, .f32⟩
  | 38 => ⟨S1x1x768, .f32⟩
  | 39 => ⟨S1x2048x768, .f32⟩
  | 40 => ⟨S1x2048x768, .f32⟩
  | _ => ⟨S1x2048x768, .f32⟩

abbrev hbmTy (i : Nat) : BufTy := match i / 128 with
  | 0 => hbmTy0_0 i
  | 1 => hbmTy0_1 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_c : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_c_0 : Ref sig .tc := ⟨.hbm, 52, rfl⟩
abbrev main_call0_v12 : Ref sig .tc := ⟨.hbm, 53, rfl⟩
abbrev main_call0_v13 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_1 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v35 : Ref sig .tc := ⟨.hbm, 67, rfl⟩
abbrev main_values : Ref sig .tc := ⟨.hbm, 68, rfl⟩
abbrev main_indices : Ref sig .tc := ⟨.hbm, 69, rfl⟩
abbrev main_v36 : Ref sig .tc := ⟨.hbm, 70, rfl⟩
abbrev main_cst_2 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_c_3 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_v6 : Ref sig .tc := ⟨.hbm, 83, rfl⟩
abbrev main_call2_v7 : Ref sig .tc := ⟨.hbm, 84, rfl⟩
abbrev main_call2_v8 : Ref sig .tc := ⟨.hbm, 85, rfl⟩
abbrev main_call2_c : Ref sig .tc := ⟨.hbm, 86, rfl⟩
abbrev main_call2_v9 : Ref sig .tc := ⟨.hbm, 87, rfl⟩
abbrev main_call2_v10 : Ref sig .tc := ⟨.hbm, 88, rfl⟩
abbrev main_call2_v11 : Ref sig .tc := ⟨.hbm, 89, rfl⟩
abbrev main_call2_c_0 : Ref sig .tc := ⟨.hbm, 90, rfl⟩
abbrev main_call2_v12 : Ref sig .tc := ⟨.hbm, 91, rfl⟩
abbrev main_call2_v13 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_cst_4 : Ref sig .tc := ⟨.hbm, 105, rfl⟩
abbrev main_call3_v0 : Ref sig .tc := ⟨.hbm, 106, rfl⟩
abbrev main_call3_v1 : Ref sig .tc := ⟨.hbm, 107, rfl⟩
abbrev main_call3_v2 : Ref sig .tc := ⟨.hbm, 108, rfl⟩
abbrev main_v53 : Ref sig .tc := ⟨.hbm, 109, rfl⟩
abbrev main_cst_5 : Ref sig .tc := ⟨.hbm, 110, rfl⟩
abbrev main_v54 : Ref sig .tc := ⟨.hbm, 111, rfl⟩
abbrev main_cst_6 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_cst_7 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_cst_8 : Ref sig .tc := ⟨.hbm, 126, rfl⟩
abbrev main_v67 : Ref sig .tc := ⟨.hbm, 127, rfl⟩
abbrev main_cst_9 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_cst_10 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_call4_v0 : Ref sig .tc := ⟨.hbm, 143, rfl⟩
abbrev main_call4_v1 : Ref sig .tc := ⟨.hbm, 144, rfl⟩
abbrev main_call4_v2 : Ref sig .tc := ⟨.hbm, 145, rfl⟩
abbrev main_call4_v3 : Ref sig .tc := ⟨.hbm, 146, rfl⟩
abbrev main_call4_v4 : Ref sig .tc := ⟨.hbm, 147, rfl⟩
abbrev main_v81 : Ref sig .tc := ⟨.hbm, 148, rfl⟩
abbrev main_cst_11 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩

abbrev nD : Nat := 1
abbrev τ : Topo := Topo.v7x

variable {F : FTy → Type} [FloatOps F]
-- ==== Proof.Head.lean ====
module

public import proofs.«01_k».proof.Proof.Gen.KernelIdeal

@[expose] public section

set_option maxRecDepth 16384

/-!
The body of the kernel written by stages: the projections of one group of four heads, and for one head the
gate, the three picks, the causal attention inside each block of queries, and the four chunks of key blocks.
-/

noncomputable section

namespace Cert.KernelIdeal.Attn

open Idealize.ShloMosaic Idealize.SL.Sem Cert.KernelIdeal Cert.KernelIdeal.Gen

variable {F : FTy → Type} [FloatOps F]

/-- Product of a transposed `K × M` left operand with a `K × N` right operand. -/
def dotT (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- One projection of a group: `W xᵀ + b`, features by positions. -/
def proj (x : Vec F S2048x768 .f32) (w : Vec F S256x768 .f32) (b : Vec F S256x1 .f32) : FVec F S256x2048 .f32 :=
  addf (matmul dot_S256x768_S2048x768_S256x2048_1_1_0_0_n_n none w (shapeCast S2048x768 x shapeCasts_S2048x768_S2048x768)
      (constant S256x2048 .f32 0x00000000#32))
    (broadcastTo S256x2048 (shapeCast S256x1 b shapeCasts_S256x1_S256x1) broadcasts_S256x1_S256x2048)

/-- Floor division by 128 of a vector of words, as the kernel computes it. -/
def floorBlk (s : Shape) (v : IVec s 32) : IVec s 32 :=
  select (andi (cmpi .ne (subi (extui 32 (cmpi .sgt v (broadcast s 0#32)) natLt_1_32)
        (extui 32 (cmpi .slt v (broadcast s 0#32)) natLt_1_32))
      (broadcast s (Scalar.subi (Scalar.extui (Scalar.cmpi .sgt 128#32 0#32)) (Scalar.extui (Scalar.cmpi .slt 128#32 0#32)))))
    (cmpi .ne (remsi v (broadcast s 128#32)) (broadcast s 0#32)))
    (subi (divsi v (broadcast s 128#32)) (broadcast s 1#32)) (divsi v (broadcast s 128#32))

/-- The number of the block, along the first axis. -/
def blkNo : IVec S16x2048 32 := iota .tc S16x2048 32 [0] iota_S16x2048_d0_w32

/-- The block of the query, along the second axis. -/
def queryBlk : IVec S16x2048 32 := floorBlk S16x2048 (iota .tc S16x2048 32 [1] iota_S16x2048_d1_w32)

/-- Scores of the query against the mean key of each block, before masking. -/
def rawGate (q k : FVec F S64x2048 .f32) : FVec F S16x2048 .f32 :=
  matmul dot_S64x16_S64x2048_S16x2048_0_0_1_1_n_n none
    (divf (multiReduction .add [2] S64x16 (shapeCast S64x16x128 k shapeCasts_S64x2048_S64x16x128) 0x00000000#32
        reduces_S64x16x128_S64x16 (.inl rfl) rfl)
      (broadcast S64x16 (Scalar.ofBits .f32 0x43000000#32)))
    q (constant S16x2048 .f32 0x00000000#32)

/-- The gate: the blocks after the query's own are masked. -/
def gate (q k : FVec F S64x2048 .f32) : FVec F S16x2048 .f32 :=
  select (cmpi .sgt blkNo queryBlk) (broadcast S16x2048 (Scalar.ofBits .f32 0xFF800000#32)) (rawGate q k)

/-- The first block, in order, at which the gate is largest, as a mask. -/
def pick (g : FVec F S16x2048 .f32) : IVec S16x2048 1 :=
  cmpi .eq blkNo (broadcastTo S16x2048 (shapeCast S1x2048
    (multiReductionI .minsi [0] S2048
      (select (cmpf .oeq g (broadcastTo S16x2048 (shapeCast S1x2048
          (multiReduction .maximumf [0] S2048 g 0xFF800000#32 reduces_S16x2048_S2048 (.inl rfl) rfl)
          shapeCasts_S2048_S1x2048) broadcasts_S1x2048_S16x2048))
        blkNo (broadcast S16x2048 16#32))
      2147483647#32 reduces_S16x2048_S2048 rfl)
    shapeCasts_S2048_S1x2048) broadcasts_S1x2048_S16x2048)

/-- The gate once the block picked is removed. -/
def drop (g : FVec F S16x2048 .f32) : FVec F S16x2048 .f32 :=
  select (pick g) (broadcast S16x2048 (Scalar.ofBits .f32 0xFF800000#32)) g

/-- A mask as zeros and ones. -/
def ofMask {s : Shape} (b : IVec s 1) : FVec F s .f32 := sitofp .f32 (extui 32 b natLt_1_32)

/-- One where one of the three picks falls, zero elsewhere. -/
def chosen (g : FVec F S16x2048 .f32) : FVec F S16x2048 .f32 :=
  maximumf (maximumf (maximumf (broadcast S16x2048 (Scalar.ofBits .f32 0x00000000#32)) (ofMask (pick g)))
    (ofMask (pick (drop g)))) (ofMask (pick (drop (drop g))))

/-- The weight of each block for each query: one for a block chosen and strictly before the query's own. -/
def weight (q k : FVec F S64x2048 .f32) : FVec F S16x2048 .f32 :=
  mulf (chosen (gate q k)) (ofMask (cmpi .slt blkNo queryBlk))

/-- One where the key, along the first axis, is not after the query, along the second. -/
def causal : FVec F S128x128 .f32 :=
  ofMask (cmpi .sle (iota .tc S128x128 32 [0] iota_S128x128_d0_w32) (iota .tc S128x128 32 [1] iota_S128x128_d1_w32))

/-- The exponentials of one block's own scores, keys by queries, masked. -/
def selfExp (q k : FVec F S64x2048 .f32) (o : Nat) (h : S64x2048.Slices ![0, o] S64x128) : FVec F S128x128 .f32 :=
  mulf (exp (mulf (matmul dot_S64x128_S64x128_S128x128_0_0_1_1_n_n none (extractStridedSlice S64x128 ![0, o] k h)
      (extractStridedSlice S64x128 ![0, o] q h) (constant S128x128 .f32 0x00000000#32))
    (broadcast S128x128 (Scalar.ofBits .f32 0x3E000000#32)))) causal

/-- Causal attention inside the block of queries that starts at `o`. -/
def selfBlk (q k v : FVec F S64x2048 .f32) (o : Nat) (h : S64x2048.Slices ![0, o] S64x128) : FVec F S64x128 .f32 :=
  divf (matmul dot_S64x128_S128x128_S64x128_1_0_0_1_n_n none (extractStridedSlice S64x128 ![0, o] v h) (selfExp q k o h)
      (constant S64x128 .f32 0x00000000#32))
    (broadcastTo S64x128 (shapeCast S1x128
      (multiReduction .add [0] S128 (selfExp q k o h) 0x00000000#32 reduces_S128x128_S128 (.inl rfl) rfl)
      shapeCasts_S128_S1x128) broadcasts_S1x128_S64x128)

/-- One where the key of a chunk, along the first axis, lies in the block of the chunk along the second. -/
def members : FVec F S512x4 .f32 :=
  ofMask (cmpi .eq (floorBlk S512x4 (iota .tc S512x4 32 [0] iota_S512x4_d0_w32)) (iota .tc S512x4 32 [1] iota_S512x4_d1_w32))

/-- The exponentials of a chunk of 512 keys from `r` against the `n` queries from `o`. -/
def chunkExp (n o r : Nat) (hq : S64x2048.Slices ![0, o] ⟨2, ![64, n]⟩) (hk : S64x2048.Slices ![0, r] S64x512)
    (q k : FVec F S64x2048 .f32) : FVec F ⟨2, ![512, n]⟩ .f32 :=
  exp (mulf (matmul (dotT 64 512 n) none (extractStridedSlice S64x512 ![0, r] k hk) (extractStridedSlice ⟨2, ![64, n]⟩ ![0, o] q hq)
      (constant ⟨2, ![512, n]⟩ .f32 0x00000000#32))
    (broadcast ⟨2, ![512, n]⟩ (Scalar.ofBits .f32 0x3E000000#32)))

/-- The coefficient of each of the four blocks of a chunk: its weight over the sum of its exponentials. -/
def chunkCoef (n o c : Nat) (hw : S16x2048.Slices ![c, o] ⟨2, ![4, n]⟩) (w : FVec F S16x2048 .f32)
    (e : FVec F ⟨2, ![512, n]⟩ .f32) : FVec F ⟨2, ![4, n]⟩ .f32 :=
  divf (extractStridedSlice ⟨2, ![4, n]⟩ ![c, o] w hw) (matmul (dotT 512 4 n) none members e (constant ⟨2, ![4, n]⟩ .f32 0x00000000#32))

/-- What the block `b` of a chunk adds: its values (from column `r`) times its exponentials, times its coefficient. -/
def contrib (n r b b' : Nat) (hv : S64x2048.Slices ![0, r] S64x128)
    (he : (⟨2, ![512, n]⟩ : Shape).Slices ![b', 0] ⟨2, ![128, n]⟩) (hc : (⟨2, ![4, n]⟩ : Shape).Slices ![b, 0] ⟨2, ![1, n]⟩)
    (hb : (⟨2, ![1, n]⟩ : Shape).Broadcasts ⟨2, ![64, n]⟩)
    (v : FVec F S64x2048 .f32) (e : FVec F ⟨2, ![512, n]⟩ .f32) (c : FVec F ⟨2, ![4, n]⟩ .f32) : FVec F ⟨2, ![64, n]⟩ .f32 :=
  mulf (matmul (DotDims.plain 64 128 n) none (extractStridedSlice S64x128 ![0, r] v hv) (extractStridedSlice ⟨2, ![128, n]⟩ ![b', 0] e he)
      (constant ⟨2, ![64, n]⟩ .f32 0x00000000#32))
    (broadcastTo ⟨2, ![64, n]⟩ (extractStridedSlice ⟨2, ![1, n]⟩ ![b, 0] c hc) hb)

/-- What the key blocks 0 to 3 add to the queries from position 128 on. -/
def acc0 (q k v : FVec F S64x2048 .f32) (w : FVec F S16x2048 .f32) : FVec F S64x1920 .f32 :=
  let e := chunkExp 1920 128 0 slices_S64x2048_o0_128_S64x1920 slices_S64x2048_o0_0_S64x512 q k
  let g := chunkCoef 1920 128 0 slices_S16x2048_o0_128_S4x1920 w e
  addf (addf (addf
    (contrib 1920 0 0 0 slices_S64x2048_o0_0_S64x128 slices_S512x1920_o0_0_S128x1920 slices_S4x1920_o0_0_S1x1920
      broadcasts_S1x1920_S64x1920 v e g)
    (contrib 1920 128 1 128 slices_S64x2048_o0_128_S64x128 slices_S512x1920_o128_0_S128x1920 slices_S4x1920_o1_0_S1x1920
      broadcasts_S1x1920_S64x1920 v e g))
    (contrib 1920 256 2 256 slices_S64x2048_o0_256_S64x128 slices_S512x1920_o256_0_S128x1920 slices_S4x1920_o2_0_S1x1920
      broadcasts_S1x1920_S64x1920 v e g))
    (contrib 1920 384 3 384 slices_S64x2048_o0_384_S64x128 slices_S512x1920_o384_0_S128x1920 slices_S4x1920_o3_0_S1x1920
      broadcasts_S1x1920_S64x1920 v e g)

/-- What the key blocks 4 to 7 add to the queries from position 640 on. -/
def acc1 (q k v : FVec F S64x2048 .f32) (w : FVec F S16x2048 .f32) : FVec F S64x1408 .f32 :=
  let e := chunkExp 1408 640 512 slices_S64x2048_o0_640_S64x1408 slices_S64x2048_o0_512_S64x512 q k
  let g := chunkCoef 1408 640 4 slices_S16x2048_o4_640_S4x1408 w e
  addf (addf (addf
    (contrib 1408 512 0 0 slices_S64x2048_o0_512_S64x128 slices_S512x1408_o0_0_S128x1408 slices_S4x1408_o0_0_S1x1408
      broadcasts_S1x1408_S64x1408 v e g)
    (contrib 1408 640 1 128 slices_S64x2048_o0_640_S64x128 slices_S512x1408_o128_0_S128x1408 slices_S4x1408_o1_0_S1x1408
      broadcasts_S1x1408_S64x1408 v e g))
    (contrib 1408 768 2 256 slices_S64x2048_o0_768_S64x128 slices_S512x1408_o256_0_S128x1408 slices_S4x1408_o2_0_S1x1408
      broadcasts_S1x1408_S64x1408 v e g))
    (contrib 1408 896 3 384 slices_S64x2048_o0_896_S64x128 slices_S512x1408_o384_0_S128x1408 slices_S4x1408_o3_0_S1x1408
      broadcasts_S1x1408_S64x1408 v e g)

/-- What the key blocks 8 to 11 add to the queries from position 1152 on. -/
def acc2 (q k v : FVec F S64x2048 .f32) (w : FVec F S16x2048 .f32) : FVec F S64x896 .f32 :=
  let e := chunkExp 896 1152 1024 slices_S64x2048_o0_1152_S64x896 slices_S64x2048_o0_1024_S64x512 q k
  let g := chunkCoef 896 1152 8 slices_S16x2048_o8_1152_S4x896 w e
  addf (addf (addf
    (contrib 896 1024 0 0 slices_S64x2048_o0_1024_S64x128 slices_S512x896_o0_0_S128x896 slices_S4x896_o0_0_S1x896
      broadcasts_S1x896_S64x896 v e g)
    (contrib 896 1152 1 128 slices_S64x2048_o0_1152_S64x128 slices_S512x896_o128_0_S128x896 slices_S4x896_o1_0_S1x896
      broadcasts_S1x896_S64x896 v e g))
    (contrib 896 1280 2 256 slices_S64x2048_o0_1280_S64x128 slices_S512x896_o256_0_S128x896 slices_S4x896_o2_0_S1x896
      broadcasts_S1x896_S64x896 v e g))
    (contrib 896 1408 3 384 slices_S64x2048_o0_1408_S64x128 slices_S512x896_o384_0_S128x896 slices_S4x896_o3_0_S1x896
      broadcasts_S1x896_S64x896 v e g)

/-- What the key blocks 12 to 15 add to the queries from position 1664 on. -/
def acc3 (q k v : FVec F S64x2048 .f32) (w : FVec F S16x2048 .f32) : FVec F S64x384 .f32 :=
  let e := chunkExp 384 1664 1536 slices_S64x2048_o0_1664_S64x384 slices_S64x2048_o0_1536_S64x512 q k
  let g := chunkCoef 384 1664 12 slices_S16x2048_o12_1664_S4x384 w e
  addf (addf (addf
    (contrib 384 1536 0 0 slices_S64x2048_o0_1536_S64x128 slices_S512x384_o0_0_S128x384 slices_S4x384_o0_0_S1x384
      broadcasts_S1x384_S64x384 v e g)
    (contrib 384 1664 1 128 slices_S64x2048_o0_1664_S64x128 slices_S512x384_o128_0_S128x384 slices_S4x384_o1_0_S1x384
      broadcasts_S1x384_S64x384 v e g))
    (contrib 384 1792 2 256 slices_S64x2048_o0_1792_S64x128 slices_S512x384_o256_0_S128x384 slices_S4x384_o2_0_S1x384
      broadcasts_S1x384_S64x384 v e g))
    (contrib 384 1920 3 384 slices_S64x2048_o0_1920_S64x128 slices_S512x384_o384_0_S128x384 slices_S4x384_o3_0_S1x384
      broadcasts_S1x384_S64x384 v e g)

/-- One head: the own block's attention plus what the chunks add, block of queries by block of queries. -/
def head (q k v : FVec F S64x2048 .f32) : FVec F S64x2048 .f32 :=
  let w := weight q k
  let a0 := acc0 q k v w
  let a1 := acc1 q k v w
  let a2 := acc2 q k v w
  let a3 := acc3 q k v w
  concatenate S64x2048 1 [
      ⟨S64x128, selfBlk q k v 0 slices_S64x2048_o0_0_S64x128⟩,
      ⟨S64x128, addf (selfBlk q k v 128 slices_S64x2048_o0_128_S64x128) (extractStridedSlice S64x128 ![0, 0] a0 slices_S64x1920_o0_0_S64x128)⟩,
      ⟨S64x128, addf (selfBlk q k v 256 slices_S64x2048_o0_256_S64x128) (extractStridedSlice S64x128 ![0, 128] a0 slices_S64x1920_o0_128_S64x128)⟩,
      ⟨S64x128, addf (selfBlk q k v 384 slices_S64x2048_o0_384_S64x128) (extractStridedSlice S64x128 ![0, 256] a0 slices_S64x1920_o0_256_S64x128)⟩,
      ⟨S64x128, addf (selfBlk q k v 512 slices_S64x2048_o0_512_S64x128) (extractStridedSlice S64x128 ![0, 384] a0 slices_S64x1920_o0_384_S64x128)⟩,
      ⟨S64x128, addf (addf (selfBlk q k v 640 slices_S64x2048_o0_640_S64x128) (extractStridedSlice S64x128 ![0, 512] a0 slices_S64x1920_o0_512_S64x128)) (extractStridedSlice S64x128 ![0, 0] a1 slices_S64x1408_o0_0_S64x128)⟩,
      ⟨S64x128, addf (addf (selfBlk q k v 768 slices_S64x2048_o0_768_S64x128) (extractStridedSlice S64x128 ![0, 640] a0 slices_S64x1920_o0_640_S64x128)) (extractStridedSlice S64x128 ![0, 128] a1 slices_S64x1408_o0_128_S64x128)⟩,
      ⟨S64x128, addf (addf (selfBlk q k v 896 slices_S64x2048_o0_896_S64x128) (extractStridedSlice S64x128 ![0, 768] a0 slices_S64x1920_o0_768_S64x128)) (extractStridedSlice S64x128 ![0, 256] a1 slices_S64x1408_o0_256_S64x128)⟩,
      ⟨S64x128, addf (addf (selfBlk q k v 1024 slices_S64x2048_o0_1024_S64x128) (extractStridedSlice S64x128 ![0, 896] a0 slices_S64x1920_o0_896_S64x128)) (extractStridedSlice S64x128 ![0, 384] a1 slices_S64x1408_o0_384_S64x128)⟩,
      ⟨S64x128, addf (addf (addf (selfBlk q k v 1152 slices_S64x2048_o0_1152_S64x128) (extractStridedSlice S64x128 ![0, 1024] a0 slices_S64x1920_o0_1024_S64x128)) (extractStridedSlice S64x128 ![0, 512] a1 slices_S64x1408_o0_512_S64x128)) (extractStridedSlice S64x128 ![0, 0] a2 slices_S64x896_o0_0_S64x128)⟩,
      ⟨S64x128, addf (addf (addf (selfBlk q k v 1280 slices_S64x2048_o0_1280_S64x128) (extractStridedSlice S64x128 ![0, 1152] a0 slices_S64x1920_o0_1152_S64x128)) (extractStridedSlice S64x128 ![0, 640] a1 slices_S64x1408_o0_640_S64x128)) (extractStridedSlice S64x128 ![0, 128] a2 slices_S64x896_o0_128_S64x128)⟩,
      ⟨S64x128, addf (addf (addf (selfBlk q k v 1408 slices_S64x2048_o0_1408_S64x128) (extractStridedSlice S64x128 ![0, 1280] a0 slices_S64x1920_o0_1280_S64x128)) (extractStridedSlice S64x128 ![0, 768] a1 slices_S64x1408_o0_768_S64x128)) (extractStridedSlice S64x128 ![0, 256] a2 slices_S64x896_o0_256_S64x128)⟩,
      ⟨S64x128, addf (addf (addf (selfBlk q k v 1536 slices_S64x2048_o0_1536_S64x128) (extractStridedSlice S64x128 ![0, 1408] a0 slices_S64x1920_o0_1408_S64x128)) (extractStridedSlice S64x128 ![0, 896] a1 slices_S64x1408_o0_896_S64x128)) (extractStridedSlice S64x128 ![0, 384] a2 slices_S64x896_o0_384_S64x128)⟩,
      ⟨S64x128, addf (addf (addf (addf (selfBlk q k v 1664 slices_S64x2048_o0_1664_S64x128) (extractStridedSlice S64x128 ![0, 1536] a0 slices_S64x1920_o0_1536_S64x128)) (extractStridedSlice S64x128 ![0, 1024] a1 slices_S64x1408_o0_1024_S64x128)) (extractStridedSlice S64x128 ![0, 512] a2 slices_S64x896_o0_512_S64x128)) (extractStridedSlice S64x128 ![0, 0] a3 slices_S64x384_o0_0_S64x128)⟩,
      ⟨S64x128, addf (addf (addf (addf (selfBlk q k v 1792 slices_S64x2048_o0_1792_S64x128) (extractStridedSlice S64x128 ![0, 1664] a0 slices_S64x1920_o0_1664_S64x128)) (extractStridedSlice S64x128 ![0, 1152] a1 slices_S64x1408_o0_1152_S64x128)) (extractStridedSlice S64x128 ![0, 640] a2 slices_S64x896_o0_640_S64x128)) (extractStridedSlice S64x128 ![0, 128] a3 slices_S64x384_o0_128_S64x128)⟩,
      ⟨S64x128, addf (addf (addf (addf (selfBlk q k v 1920 slices_S64x2048_o0_1920_S64x128) (extractStridedSlice S64x128 ![0, 1792] a0 slices_S64x1920_o0_1792_S64x128)) (extractStridedSlice S64x128 ![0, 1280] a1 slices_S64x1408_o0_1280_S64x128)) (extractStridedSlice S64x128 ![0, 768] a2 slices_S64x896_o0_768_S64x128)) (extractStridedSlice S64x128 ![0, 256] a3 slices_S64x384_o0_256_S64x128)⟩]
    concatenates_S64x128_S64x128_S64x128_S64x128_S64x128_S64x128_S64x128_S64x128_S64x128_S64x128_S64x128_S64x128_S64x128_S64x128_S64x128_S64x128_S64x2048_d1

/-- One head of a group, from the rows `o` to `o + 63` of the projections. -/
def headAt (q k v : FVec F S256x2048 .f32) (o : Nat) (h : S256x2048.Slices ![o, 0] S64x2048) : FVec F S64x2048 .f32 :=
  head (extractStridedSlice S64x2048 ![o, 0] q h) (extractStridedSlice S64x2048 ![o, 0] k h) (extractStridedSlice S64x2048 ![o, 0] v h)

/-- The four heads of a group, one under the other. -/
def heads (q k v : FVec F S256x2048 .f32) : FVec F S256x2048 .f32 :=
  concatenate S256x2048 0 [
      ⟨S64x2048, headAt q k v 0 slices_S256x2048_o0_0_S64x2048⟩, ⟨S64x2048, headAt q k v 64 slices_S256x2048_o64_0_S64x2048⟩,
      ⟨S64x2048, headAt q k v 128 slices_S256x2048_o128_0_S64x2048⟩, ⟨S64x2048, headAt q k v 192 slices_S256x2048_o192_0_S64x2048⟩]
    concatenates_S64x2048_S64x2048_S64x2048_S64x2048_S256x2048_d0

/-- What one grid point computes from its blocks of the arguments. -/
def group (x : Vec F S2048x768 .f32) (wq : Vec F S256x768 .f32) (bq : Vec F S256x1 .f32) (wk : Vec F S256x768 .f32)
    (bk : Vec F S256x1 .f32) (wv : Vec F S256x768 .f32) (bv : Vec F S256x1 .f32) : FVec F S256x2048 .f32 :=
  heads (proj x wq bq) (proj x wk bk) (proj x wv bv)

/-- The last point's output projection: the three groups' rows, each position against `Wo`, plus the bias. -/
def outProj (g0 g1 g2 : Vec F S256x2048 .f32) (wo : Vec F S768x768 .f32) (bo : Vec F S1x768 .f32) : FVec F S2048x768 .f32 :=
  addf (matmul dot_S768x2048_S768x768_S2048x768_0_1_1_0_n_n none
      (concatenate S768x2048 0 [⟨S256x2048, g0⟩, ⟨S256x2048, g1⟩, ⟨S256x2048, g2⟩]
        concatenates_S256x2048_S256x2048_S256x2048_S768x2048_d0) wo (constant S2048x768 .f32 0x00000000#32))
    (broadcastTo S2048x768 (shapeCast S1x768 bo shapeCasts_S1x768_S1x768) broadcasts_S1x768_S2048x768)

end Cert.KernelIdeal.Attn
end
-- ==== Proof.Run.lean ====
module

public import proofs.«01_k».proof.Proof.Head
public import proofs.«01_k».proof.Proof.Gen.KernelIdeal.Skeleton
public import proofs.«01_k».proof.Proof.Gen.KernelIdeal.Frame
public import Idealize.ShloMosaic.Lib.Pointwise
public import Idealize.ShloMosaic.Lib.WritesUnit
public import Idealize.ShloMosaic.Lib.VecWindow
public import Idealize.ShloMosaic.Lib.WholeRead
public import Idealize.ShloMosaic.Lib.WordCmp

@[expose] public section

set_option maxRecDepth 65536

/-!
The body of the kernel, run once at a grid point: before the last point it leaves its group of heads in its rows of
the scratch buffer; at the last point it leaves the output projection of the two groups kept and its own.
-/

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The scratch buffer with the rows of the point's group replaced. -/
def putRows (i : grid0.Coords) (s : Vec F S768x2048 .f32) (g : FVec F S256x2048 .f32) : Vec F S768x2048 .f32 :=
  fun j => if h : 256 * (i 0).val ≤ (j 0).val ∧ (j 0).val < 256 * (i 0).val + 256 then
    g (ix2 ⟨(j 0).val - 256 * (i 0).val, by omega⟩ (j 1)) else s j

theorem off1_eq (i : grid0.Coords) (h : k0_cond1 i = 1#1) : k0_off1 i = ![256 * (i 0).val, 0] := by
  revert h; revert i; decide +kernel

/-- The 256 rows of the scratch buffer from row `o`. -/
def rowsAt (o : Nat) (ho : o + 256 ≤ 768) (s : Vec F S768x2048 .f32) : Vec F S256x2048 .f32 :=
  fun j => s (ix2 ⟨o + (j 0).val, by have : (j 0).val < 256 := (j 0).isLt; omega⟩ (j 1))

set_option maxHeartbeats 2000000 in
/-- Before the last point: the point's rows of the scratch buffer take its group of heads. -/
theorem run_early (c : Dev nD) (i : grid0.Coords) (arg1 : Memref sig .tc .vmem S2048x768 .f32) (harg1 : arg1.IsWhole) (arg2 : Memref sig .tc .vmem S256x768 .f32) (harg2 : arg2.IsWhole) (arg3 : Memref sig .tc .vmem S256x1 .f32) (harg3 : arg3.IsWhole) (arg4 : Memref sig .tc .vmem S256x768 .f32) (harg4 : arg4.IsWhole) (arg5 : Memref sig .tc .vmem S256x1 .f32) (harg5 : arg5.IsWhole) (arg6 : Memref sig .tc .vmem S256x768 .f32) (harg6 : arg6.IsWhole) (arg7 : Memref sig .tc .vmem S256x1 .f32) (harg7 : arg7.IsWhole) (arg8 : Memref sig .tc .vmem S768x768 .f32) (harg8 : arg8.IsWhole) (arg9 : Memref sig .tc .vmem S1x768 .f32) (harg9 : arg9.IsWhole) (arg10 : Memref sig .tc .vmem S2048x768 .f32) (harg10 : arg10.IsWhole) (arg11 : Memref sig .tc .vmem S768x2048 .f32) (harg11 : arg11.IsWhole)
    (hc0 : k0_cond1 i = 1#1) (hc1 : ¬ k0_cond2 i = 1#1)
    (x0 : Vec F S2048x768 .f32) (x1 : Vec F S256x768 .f32) (x2 : Vec F S256x1 .f32) (x3 : Vec F S256x768 .f32) (x4 : Vec F S256x1 .f32) (x5 : Vec F S256x768 .f32) (x6 : Vec F S256x1 .f32) (x7 : Vec F S768x768 .f32) (x8 : Vec F S1x768 .f32) (o : Vec F S2048x768 .f32) (s : Vec F S768x2048 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare o ∗ owns (c : Thread nD τ) arg11 fullShare s
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare o ∗ owns (c : Thread nD τ) arg11 fullShare (putRows i s (group x0 x1 x2 x3 x4 x5 x6))) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11) K := by
    intro E K
    simp only [cc0__fused_body_eq_skeleton]; unfold cc0__fused_body_skel
    simp only [k0_part46_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact hf9
      iexact H9
    iexists _; isplitr; swap; · iexact HS0
    ipureintro
    have l0 : View.readAt (Elt F) arg1.view (Rect.unit ![0, 0] S2048x768.size inb_S2048x768_S2048x768_0_0).toLoadRect (harg1.unread x0) = x0 := (View.readAt_full _ _ _).trans hf0
    have l1 : View.readAt (Elt F) arg2.view (Rect.unit ![0, 0] S256x768.size inb_S256x768_S256x768_0_0).toLoadRect (harg2.unread x1) = x1 := (View.readAt_full _ _ _).trans hf1
    have l2 : View.readAt (Elt F) arg3.view (Rect.unit ![0, 0] S256x1.size inb_S256x1_S256x1_0_0).toLoadRect (harg3.unread x2) = x2 := (View.readAt_full _ _ _).trans hf2
    have l3 : View.readAt (Elt F) arg4.view (Rect.unit ![0, 0] S256x768.size inb_S256x768_S256x768_0_0).toLoadRect (harg4.unread x3) = x3 := (View.readAt_full _ _ _).trans hf3
    have l4 : View.readAt (Elt F) arg5.view (Rect.unit ![0, 0] S256x1.size inb_S256x1_S256x1_0_0).toLoadRect (harg5.unread x4) = x4 := (View.readAt_full _ _ _).trans hf4
    have l5 : View.readAt (Elt F) arg6.view (Rect.unit ![0, 0] S256x768.size inb_S256x768_S256x768_0_0).toLoadRect (harg6.unread x5) = x5 := (View.readAt_full _ _ _).trans hf5
    have l6 : View.readAt (Elt F) arg7.view (Rect.unit ![0, 0] S256x1.size inb_S256x1_S256x1_0_0).toLoadRect (harg7.unread x6) = x6 := (View.readAt_full _ _ _).trans hf6
    have hg : run_early.sl.v2196 c arg1 harg1 arg2 harg2 arg3 harg3 arg4 harg4 arg5 harg5 arg6 harg6 arg7 harg7 x0 x1 x2 x3 x4 x5 x6 = group x0 x1 x2 x3 x4 x5 x6 := by
      have e : run_early.sl.v2196 c arg1 harg1 arg2 harg2 arg3 harg3 arg4 harg4 arg5 harg5 arg6 harg6 arg7 harg7 x0 x1 x2 x3 x4 x5 x6 = group (View.readAt (Elt F) arg1.view (Rect.unit ![0, 0] S2048x768.size inb_S2048x768_S2048x768_0_0).toLoadRect (harg1.unread x0)) (View.readAt (Elt F) arg2.view (Rect.unit ![0, 0] S256x768.size inb_S256x768_S256x768_0_0).toLoadRect (harg2.unread x1)) (View.readAt (Elt F) arg3.view (Rect.unit ![0, 0] S256x1.size inb_S256x1_S256x1_0_0).toLoadRect (harg3.unread x2)) (View.readAt (Elt F) arg4.view (Rect.unit ![0, 0] S256x768.size inb_S256x768_S256x768_0_0).toLoadRect (harg4.unread x3)) (View.readAt (Elt F) arg5.view (Rect.unit ![0, 0] S256x1.size inb_S256x1_S256x1_0_0).toLoadRect (harg5.unread x4)) (View.readAt (Elt F) arg6.view (Rect.unit ![0, 0] S256x768.size inb_S256x768_S256x768_0_0).toLoadRect (harg6.unread x5)) (View.readAt (Elt F) arg7.view (Rect.unit ![0, 0] S256x1.size inb_S256x1_S256x1_0_0).toLoadRect (harg7.unread x6)) := by sl_kernel_rfl
      rw [e, l0, l1, l2, l3, l4, l5, l6]
    rw [hg]
    funext y
    unfold putRows
    refine (View.read_writes_cons_rows (d := ![768, 2048]) (size := ![256, 2048]) (o := 256 * (i 0).val) (W := 256) arg11.view _ _ _ _ _ (off1_eq i hc0) rfl rfl).trans ?_
    split
    · rename_i h
      rw [k0_pay284, shapeCast_self]
      refine congrArg _ ?_
      funext a; fin_cases a <;> rfl
    · exact congrFun hfs0 _

set_option maxHeartbeats 2000000 in
/-- At the last point: the output takes the projection of the two groups kept and the point's own. -/
theorem run_last (c : Dev nD) (i : grid0.Coords) (arg1 : Memref sig .tc .vmem S2048x768 .f32) (harg1 : arg1.IsWhole) (arg2 : Memref sig .tc .vmem S256x768 .f32) (harg2 : arg2.IsWhole) (arg3 : Memref sig .tc .vmem S256x1 .f32) (harg3 : arg3.IsWhole) (arg4 : Memref sig .tc .vmem S256x768 .f32) (harg4 : arg4.IsWhole) (arg5 : Memref sig .tc .vmem S256x1 .f32) (harg5 : arg5.IsWhole) (arg6 : Memref sig .tc .vmem S256x768 .f32) (harg6 : arg6.IsWhole) (arg7 : Memref sig .tc .vmem S256x1 .f32) (harg7 : arg7.IsWhole) (arg8 : Memref sig .tc .vmem S768x768 .f32) (harg8 : arg8.IsWhole) (arg9 : Memref sig .tc .vmem S1x768 .f32) (harg9 : arg9.IsWhole) (arg10 : Memref sig .tc .vmem S2048x768 .f32) (harg10 : arg10.IsWhole) (arg11 : Memref sig .tc .vmem S768x2048 .f32) (harg11 : arg11.IsWhole)
    (hc0 : ¬ k0_cond1 i = 1#1) (hc1 : k0_cond2 i = 1#1)
    (x0 : Vec F S2048x768 .f32) (x1 : Vec F S256x768 .f32) (x2 : Vec F S256x1 .f32) (x3 : Vec F S256x768 .f32) (x4 : Vec F S256x1 .f32) (x5 : Vec F S256x768 .f32) (x6 : Vec F S256x1 .f32) (x7 : Vec F S768x768 .f32) (x8 : Vec F S1x768 .f32) (o : Vec F S2048x768 .f32) (s : Vec F S768x2048 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare o ∗ owns (c : Thread nD τ) arg11 fullShare s
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (outProj (rowsAt 0 (by omega) s) (rowsAt 256 (by omega) s) (group x0 x1 x2 x3 x4 x5 x6) x7 x8) ∗ owns (c : Thread nD τ) arg11 fullShare s) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11) K := by
    intro E K
    simp only [cc0__fused_body_eq_skeleton]; unfold cc0__fused_body_skel
    simp only [k0_part46_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; swap; · iexact H9
      ipureintro
      have l0 : View.readAt (Elt F) arg1.view (Rect.unit ![0, 0] S2048x768.size inb_S2048x768_S2048x768_0_0).toLoadRect (harg1.unread x0) = x0 := (View.readAt_full _ _ _).trans hf0
      have l1 : View.readAt (Elt F) arg2.view (Rect.unit ![0, 0] S256x768.size inb_S256x768_S256x768_0_0).toLoadRect (harg2.unread x1) = x1 := (View.readAt_full _ _ _).trans hf1
      have l2 : View.readAt (Elt F) arg3.view (Rect.unit ![0, 0] S256x1.size inb_S256x1_S256x1_0_0).toLoadRect (harg3.unread x2) = x2 := (View.readAt_full _ _ _).trans hf2
      have l3 : View.readAt (Elt F) arg4.view (Rect.unit ![0, 0] S256x768.size inb_S256x768_S256x768_0_0).toLoadRect (harg4.unread x3) = x3 := (View.readAt_full _ _ _).trans hf3
      have l4 : View.readAt (Elt F) arg5.view (Rect.unit ![0, 0] S256x1.size inb_S256x1_S256x1_0_0).toLoadRect (harg5.unread x4) = x4 := (View.readAt_full _ _ _).trans hf4
      have l5 : View.readAt (Elt F) arg6.view (Rect.unit ![0, 0] S256x768.size inb_S256x768_S256x768_0_0).toLoadRect (harg6.unread x5) = x5 := (View.readAt_full _ _ _).trans hf5
      have l6 : View.readAt (Elt F) arg7.view (Rect.unit ![0, 0] S256x1.size inb_S256x1_S256x1_0_0).toLoadRect (harg7.unread x6) = x6 := (View.readAt_full _ _ _).trans hf6
      have l7 : View.readAt (Elt F) arg8.view (Rect.unit ![0, 0] S768x768.size inb_S768x768_S768x768_0_0).toLoadRect (harg8.unread x7) = x7 := (View.readAt_full _ _ _).trans hf7
      have l8 : View.readAt (Elt F) arg9.view (Rect.unit ![0, 0] S1x768.size inb_S1x768_S1x768_0_0).toLoadRect (harg9.unread x8) = x8 := (View.readAt_full _ _ _).trans hf8
      have hg : run_last.sl.v2196 c arg1 harg1 arg2 harg2 arg3 harg3 arg4 harg4 arg5 harg5 arg6 harg6 arg7 harg7 x0 x1 x2 x3 x4 x5 x6 = group x0 x1 x2 x3 x4 x5 x6 := by
        have e : run_last.sl.v2196 c arg1 harg1 arg2 harg2 arg3 harg3 arg4 harg4 arg5 harg5 arg6 harg6 arg7 harg7 x0 x1 x2 x3 x4 x5 x6 = group (View.readAt (Elt F) arg1.view (Rect.unit ![0, 0] S2048x768.size inb_S2048x768_S2048x768_0_0).toLoadRect (harg1.unread x0)) (View.readAt (Elt F) arg2.view (Rect.unit ![0, 0] S256x768.size inb_S256x768_S256x768_0_0).toLoadRect (harg2.unread x1)) (View.readAt (Elt F) arg3.view (Rect.unit ![0, 0] S256x1.size inb_S256x1_S256x1_0_0).toLoadRect (harg3.unread x2)) (View.readAt (Elt F) arg4.view (Rect.unit ![0, 0] S256x768.size inb_S256x768_S256x768_0_0).toLoadRect (harg4.unread x3)) (View.readAt (Elt F) arg5.view (Rect.unit ![0, 0] S256x1.size inb_S256x1_S256x1_0_0).toLoadRect (harg5.unread x4)) (View.readAt (Elt F) arg6.view (Rect.unit ![0, 0] S256x768.size inb_S256x768_S256x768_0_0).toLoadRect (harg6.unread x5)) (View.readAt (Elt F) arg7.view (Rect.unit ![0, 0] S256x1.size inb_S256x1_S256x1_0_0).toLoadRect (harg7.unread x6)) := by sl_kernel_rfl
        rw [e, l0, l1, l2, l3, l4, l5, l6]
      have r0 : View.readAt (Elt F) arg11.view (Rect.unit (s := S768x2048) ![0, 0] S256x2048.size inb_S768x2048_S256x2048_0_0).toLoadRect (harg11.unread s)
          = rowsAt 0 (by omega) s := by
        funext y
        refine (Memref.IsWhole.readAt_unread harg11 s _ y).trans (congrArg s ?_)
        funext a; fin_cases a <;> apply Fin.ext <;> simp [Rect.unit, ix2]
      have r1 : View.readAt (Elt F) arg11.view (Rect.unit (s := S768x2048) ![256, 0] S256x2048.size inb_S768x2048_S256x2048_256_0).toLoadRect (harg11.unread s)
          = rowsAt 256 (by omega) s := by
        funext y
        refine (Memref.IsWhole.readAt_unread harg11 s _ y).trans (congrArg s ?_)
        funext a; fin_cases a <;> apply Fin.ext <;> simp [Rect.unit, ix2]
      rw [hg, l7, l8, r0, r1]
      exact View.read_writes_full _ _ _ _ _
    iexists _; isplitr; swap; · iexact HS0
    ipureintro; exact harg11.read_unread _

end Cert.KernelIdeal.Attn
end
-- ==== Proof.Body.lean ====
module

public import proofs.«01_k».proof.Proof.Run
public import Idealize.ShloMosaic.Lib.Claim

@[expose] public section

set_option maxRecDepth 16384

/-!
The launch of the kernel: what the scratch buffer keeps from point to point, the body at every point, and the whole
run, whose output window ends at the projection of the three groups of heads.
-/

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem coord_eq : ∀ t : Fin grid0.N, (grid0.coords t 0).val = t.val := by decide +kernel

theorem early_iff : ∀ t : Fin grid0.N, k0_cond1 (grid0.coords t) = 1#1 ↔ t.val < 2 := by decide +kernel

theorem last_iff : ∀ t : Fin grid0.N, k0_cond2 (grid0.coords t) = 1#1 ↔ ¬ t.val < 2 := by decide +kernel

theorem idle_out : ∀ t : Fin cfg0.N, cfg0.idle 9 (grid0.coords t) = !(k0_cond2 (grid0.coords t) == 1#1) := fun _ => rfl

theorem rowsAt_putRows_self (i : grid0.Coords) (s : Vec F S768x2048 .f32) (g : FVec F S256x2048 .f32) (o : Nat)
    (ho : o + 256 ≤ 768) (e : o = 256 * (i 0).val) : rowsAt o ho (putRows i s g) = g := by
  funext j
  have hj : (j 0).val < 256 := (j 0).isLt
  unfold rowsAt putRows
  rw [dif_pos (by simp only [ix2, Matrix.cons_val_zero]; omega)]
  refine congrArg g ?_
  funext a; fin_cases a
  · apply Fin.ext; simp only [ix2]; show o + (j 0).val - 256 * (i 0).val = (j 0).val; omega
  · rfl

theorem rowsAt_putRows_ne (i : grid0.Coords) (s : Vec F S768x2048 .f32) (g : FVec F S256x2048 .f32) (o : Nat)
    (ho : o + 256 ≤ 768) (e : o + 256 ≤ 256 * (i 0).val) : rowsAt o ho (putRows i s g) = rowsAt o ho s := by
  funext j
  have hj : (j 0).val < 256 := (j 0).isLt
  unfold rowsAt putRows
  rw [dif_neg (by show ¬ (256 * (i 0).val ≤ o + (j 0).val ∧ _); omega)]

/-- What the point `t` computes from its blocks. -/
def grp (c : Dev nD) (t : Fin cfg0.N) : FVec F S256x2048 .f32 :=
  group (iblk m c 0 t) (iblk m c 1 t) (iblk m c 2 t) (iblk m c 3 t) (iblk m c 4 t) (iblk m c 5 t) (iblk m c 6 t)

/-- What the output window ends at. -/
def outVal (c : Dev nD) : FVec F S2048x768 .f32 :=
  outProj (grp m c t0_0) (grp m c t0_1) (grp m c t0_2) (iblk m c 7 t0_2) (iblk m c 8 t0_2)

/-- Before point `n` the scratch buffer holds the groups of the points before it. -/
def Kept (c : Dev nD) (n : Nat) (s : Vec F S768x2048 .f32) : Prop :=
  (1 ≤ n → rowsAt 0 (by omega) s = grp m c t0_0) ∧ (2 ≤ n → rowsAt 256 (by omega) s = grp m c t0_1)

theorem kept_step (c : Dev nD) (t : Fin cfg0.N) (ht : t.val < 2) (s : Vec F S768x2048 .f32) (h : Kept m c t.val s) :
    Kept m c (t.val + 1) (putRows (grid0.coords t) s (grp m c t)) := by
  have hc := coord_eq t
  rcases fin_N0 t with rfl | rfl | rfl
  · exact ⟨fun _ => rowsAt_putRows_self _ _ _ _ _ (by rw [hc]; rfl), fun h2 => absurd h2 (by decide)⟩
  · exact ⟨fun _ => (rowsAt_putRows_ne _ _ _ _ _ (by rw [hc]; decide)).trans (h.1 (by decide)),
      fun _ => rowsAt_putRows_self _ _ _ _ _ (by rw [hc]; rfl)⟩
  · exact absurd ht (by decide)

/-- The data of the launch: the arrays as found, each input left in place, the output at its final value, the scratch
buffer as `Kept` says, and the generator register untouched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outVal m c
  Φ t := iprop((∃ s, ⌜Kept m c t.val s⌝ ∗ owns (c : Thread nD τ) (Memref.whole cc0_scratch0) fullShare s) ∗ (∃ r, prngReg c r))
  q _ := fullShare
  owed _ := 0

theorem A_eq (c : Dev nD) (w : Fin cfg0.W) : (dats m 0 c).A w = V m c (Pipeline.arrRef spec0 w) := by
  dsimp only [dats]

theorem after9 (c : Dev nD) (t : Fin cfg0.N) : (dats m 0 c).after 9 t = outVal m c := by dsimp only [dats]
theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem leaves0 (c : Dev nD) (t : Fin cfg0.N) : (dats m 0 c).leavesExact 0 t
    = owns (c : Thread nD τ) (win0_0.stage (cfg0.slots t 0)) fullShare (iblk m c 0 t) := by
  unfold Dat.leavesExact; rw [show cfg0.idle 0 (grid0.coords t) = false from rfl, after0]
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem leaves1 (c : Dev nD) (t : Fin cfg0.N) : (dats m 0 c).leavesExact 1 t
    = owns (c : Thread nD τ) (win0_1.stage (cfg0.slots t 1)) fullShare (iblk m c 1 t) := by
  unfold Dat.leavesExact; rw [show cfg0.idle 1 (grid0.coords t) = false from rfl, after1]
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem leaves2 (c : Dev nD) (t : Fin cfg0.N) : (dats m 0 c).leavesExact 2 t
    = owns (c : Thread nD τ) (win0_2.stage (cfg0.slots t 2)) fullShare (iblk m c 2 t) := by
  unfold Dat.leavesExact; rw [show cfg0.idle 2 (grid0.coords t) = false from rfl, after2]
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem leaves3 (c : Dev nD) (t : Fin cfg0.N) : (dats m 0 c).leavesExact 3 t
    = owns (c : Thread nD τ) (win0_3.stage (cfg0.slots t 3)) fullShare (iblk m c 3 t) := by
  unfold Dat.leavesExact; rw [show cfg0.idle 3 (grid0.coords t) = false from rfl, after3]
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem leaves4 (c : Dev nD) (t : Fin cfg0.N) : (dats m 0 c).leavesExact 4 t
    = owns (c : Thread nD τ) (win0_4.stage (cfg0.slots t 4)) fullShare (iblk m c 4 t) := by
  unfold Dat.leavesExact; rw [show cfg0.idle 4 (grid0.coords t) = false from rfl, after4]
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d
theorem leaves5 (c : Dev nD) (t : Fin cfg0.N) : (dats m 0 c).leavesExact 5 t
    = owns (c : Thread nD τ) (win0_5.stage (cfg0.slots t 5)) fullShare (iblk m c 5 t) := by
  unfold Dat.leavesExact; rw [show cfg0.idle 5 (grid0.coords t) = false from rfl, after5]
theorem after6 (c : Dev nD) (t : Fin cfg0.N) : (dats m 0 c).after 6 t = iblk m c 6 t := by dsimp only [dats]
theorem before6 (c : Dev nD) (t : Fin cfg0.N) (d) : (dats m 0 c).before 6 t d = iblk m c 6 t :=
  before0_6_of m (dats m 0 c) (A_eq m c 6) (after6 m c) t d
theorem leaves6 (c : Dev nD) (t : Fin cfg0.N) : (dats m 0 c).leavesExact 6 t
    = owns (c : Thread nD τ) (win0_6.stage (cfg0.slots t 6)) fullShare (iblk m c 6 t) := by
  unfold Dat.leavesExact; rw [show cfg0.idle 6 (grid0.coords t) = false from rfl, after6]
theorem after7 (c : Dev nD) (t : Fin cfg0.N) : (dats m 0 c).after 7 t = iblk m c 7 t := by dsimp only [dats]
theorem before7 (c : Dev nD) (t : Fin cfg0.N) (d) : (dats m 0 c).before 7 t d = iblk m c 7 t :=
  before0_7_of m (dats m 0 c) (A_eq m c 7) (after7 m c) t d
theorem leaves7 (c : Dev nD) (t : Fin cfg0.N) : (dats m 0 c).leavesExact 7 t
    = owns (c : Thread nD τ) (win0_7.stage (cfg0.slots t 7)) fullShare (iblk m c 7 t) := by
  unfold Dat.leavesExact; rw [show cfg0.idle 7 (grid0.coords t) = false from rfl, after7]
theorem after8 (c : Dev nD) (t : Fin cfg0.N) : (dats m 0 c).after 8 t = iblk m c 8 t := by dsimp only [dats]
theorem before8 (c : Dev nD) (t : Fin cfg0.N) (d) : (dats m 0 c).before 8 t d = iblk m c 8 t :=
  before0_8_of m (dats m 0 c) (A_eq m c 8) (after8 m c) t d
theorem leaves8 (c : Dev nD) (t : Fin cfg0.N) : (dats m 0 c).leavesExact 8 t
    = owns (c : Thread nD τ) (win0_8.stage (cfg0.slots t 8)) fullShare (iblk m c 8 t) := by
  unfold Dat.leavesExact; rw [show cfg0.idle 8 (grid0.coords t) = false from rfl, after8]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d)))

/-- What the body returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem phi_at (c : Dev nD) (t : Fin (cfg0.N + 1)) : (dats m 0 c).Φ t
    = iprop((∃ s, ⌜Kept m c t.val s⌝ ∗ owns (c : Thread nD τ) (Memref.whole cc0_scratch0) fullShare s) ∗ (∃ r, prngReg c r)) := rfl

set_option maxHeartbeats 1600000 in
/-- The body at every point: before the last it keeps its group; at the last it writes the output. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, leaves0, leaves1, leaves2, leaves3, leaves4, leaves5, leaves6, leaves7, leaves8]
  rw [phi_at, phi_at, show (dats m 0 c).owesAt () t.succ = (dats m 0 c).owesAt () t.castSucc from rfl]
  by_cases h0 : t.val < 2
  · have hl : ¬ k0_cond2 (grid0.coords t) = 1#1 := fun h => ((last_iff t).mp h) h0
    have hi : cfg0.idle 9 (cfg0.grid.coords t) = true := by
      rw [idle_out t]; simp [hl]
    have hf : (cfg0.win 9).flush t = false := by
      rw [Bool.eq_false_iff]; intro h; have := (flush0_9 t).mp h; omega
    rw [(dats m 0 c).leavesExact_idle 9 t hi hf]
    iintro ⟨⟨⟨%s, %hs, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((run_early c (grid0.coords t) _ _ _ _ _ _ _ _ _ _ _ _ _ _ _ _ _ _ _ _ _ _ ((early_iff t).mpr h0) hl
      (iblk m c 0 t) (iblk m c 1 t) (iblk m c 2 t) (iblk m c 3 t) (iblk m c 4 t) (iblk m c 5 t) (iblk m c 6 t) (iblk m c 7 t) (iblk m c 8 t) _ s) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    iintro ⟨H0, H1, H2, H3, H4, H5, H6, H7, H8, H9, HS0⟩
    isplitl [HS0 Hg]
    · isplitl [HS0]
      · iexists _; isplitr; swap; · iexact HS0
        ipureintro; exact kept_step m c t h0 s hs
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  · have hN : t.val < 3 := lt_of_lt_of_eq t.isLt (show cfg0.N = 3 from N_0)
    obtain rfl : t = t0_2 := Fin.ext (by show t.val = 2; omega)
    have hl : k0_cond2 (grid0.coords t0_2) = 1#1 := (last_iff t0_2).mpr h0
    have h9 : (dats m 0 c).leavesExact 9 t0_2
        = owns (c : Thread nD τ) (win0_9.stage (cfg0.slots t0_2 9)) fullShare (outVal m c) := by
      unfold Dat.leavesExact
      rw [show cfg0.idle 9 (cfg0.grid.coords t0_2) = false from by rw [idle_out t0_2]; simp [hl], after9]
    rw [h9]
    iintro ⟨⟨⟨%s, %hs, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    have e : outVal m c = outProj (rowsAt 0 (by omega) s) (rowsAt 256 (by omega) s) (group (iblk m c 0 t0_2) (iblk m c 1 t0_2)
        (iblk m c 2 t0_2) (iblk m c 3 t0_2) (iblk m c 4 t0_2) (iblk m c 5 t0_2) (iblk m c 6 t0_2)) (iblk m c 7 t0_2) (iblk m c 8 t0_2) := by
      rw [hs.1 (by decide), hs.2 (by decide)]; rfl
    rw [e]
    iapply ((run_last c (grid0.coords t0_2) _ _ _ _ _ _ _ _ _ _ _ _ _ _ _ _ _ _ _ _ _ _ (fun h => h0 ((early_iff t0_2).mp h)) hl
      (iblk m c 0 t0_2) (iblk m c 1 t0_2) (iblk m c 2 t0_2) (iblk m c 3 t0_2) (iblk m c 4 t0_2) (iblk m c 5 t0_2) (iblk m c 6 t0_2) (iblk m c 7 t0_2) (iblk m c 8 t0_2) _ s) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    iintro ⟨H0, H1, H2, H3, H4, H5, H6, H7, H8, H9, HS0⟩
    isplitl [HS0 Hg]
    · isplitl [HS0]
      · iexists _; isplitr; swap; · iexact HS0
        ipureintro; exact ⟨fun _ => hs.1 (by decide), fun _ => hs.2 (by decide)⟩
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t`. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem phi_in (c : Dev nD) : Pipeline.ΦA spec0 c ⊢ (dats (F := F) m 0 c).Φ 0 := by
  rw [phi_at]; unfold Pipeline.ΦA; rw [scopedRest0_eq]; simp only [owns_whole]
  iintro ⟨⟨%s, HS⟩, Hg⟩
  isplitl [HS]
  · iexists s; isplitr
    · ipureintro; exact ⟨fun h => absurd h (by decide), fun h => absurd h (by decide)⟩
    iexact HS
  iexact Hg

theorem phi_out (c : Dev nD) : (dats (F := F) m 0 c).Φ (Fin.last cfg0.N) ⊢ Pipeline.ΦA spec0 c := by
  rw [phi_at]; unfold Pipeline.ΦA; rw [scopedRest0_eq]; simp only [owns_whole]
  iintro ⟨⟨%s, %hs, HS⟩, Hg⟩
  isplitl [HS]
  · iexists s; iexact HS
  iexact Hg

set_option backward.isDefEq.respectTransparency.types false in
set_option maxHeartbeats 800000 in
/-- The whole run: the arrays of the launch and the buffers around it as the data say, every counter at zero. -/
theorem run_all : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := phi_in m) (hout := phi_out m)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

end Cert.KernelIdeal.Attn
end
-- ==== Proof.Both.lean ====
module

public import proofs.«01_k».proof.Defs
public import proofs.«01_k».proof.Proof.Gen.Kernel
public import proofs.«01_k».proof.Proof.Body

@[expose] public section

set_option maxRecDepth 65536

/-!
The kernel and its idealization are one program, read over the floats' bits and over the extended reals. What is proved
of the idealization at any floats is carried to the kernel.
-/

noncomputable section

namespace Cert.Proof

open Idealize.ShloMosaic Idealize.SL.Sem

/-- What holds after a program's runs holds after those of an equal one. -/
theorem carry {nD : Nat} {τ : Topo} {sig : RefSig} {Val : EltTy → Type} {Λ : Labels} {D D' : Defs nD τ sig Val Λ}
    {M M' : Dev nD → Prog (TpuEff nD τ sig Val Λ .tc) PUnit} (hD : D = D') (hM : M = M') (s : MemSt nD τ sig Val) (Q)
    (h : θ_run D (onTc M) s Q) : θ_run D' (onTc M') s Q := by
  subst hD hM; exact h

variable {F : FTy → Type} [FloatOps F]

/-- The two bodies are one. -/
theorem body_same : @Cert.Kernel.cc0__fused_body F _ _ = @Cert.KernelIdeal.cc0__fused_body F _ _ := rfl

/-- The two tables of bodies are one. -/
theorem bodies_same : @Cert.Kernel.defs₀ F _ _ = @Cert.KernelIdeal.defs₀ F _ _ := by
  refine congrArg (Defs.onTc (nD := Cert.Kernel.nD) (τ := Cert.Kernel.τ) (sig := Cert.Kernel.sig) (Val := Elt F) (Λ := Cert.Kernel.Λ₀)) ?_
  funext l a
  obtain rfl : l = (0 : Fin 1) := Subsingleton.elim (α := Fin 1) _ _
  obtain ⟨t, s⟩ := a
  rfl

/-- The two tables, with the launch's own entries, are one. -/
theorem tables_same : @Cert.Kernel.defs F _ _ = @Cert.KernelIdeal.defs F _ _ :=
  congrArg (Pipeline.defs (Cert.Kernel.pcfgs (F := F))) bodies_same

/-- The two host programs are one. -/
theorem mains_same (d : Dev Cert.Kernel.nD) : Cert.Kernel.main (F := F) d = Cert.KernelIdeal.main (F := F) d := rfl

/-- The kernel runs to its end, leaves its arguments as they were and every counter at zero. -/
theorem kernel_runs : quiescent_Kernel (hKernel := Cert.Kernel.Gen.facts) :=
  fun m g _ => carry tables_same.symm (funext fun d => (mains_same d).symm) _ _ (Cert.KernelIdeal.Attn.frame (F := Bits) m g)

end Cert.Proof

end
-- ==== Proof.KBlocks.lean ====
module

public import proofs.«01_k».proof.Proof.Body
public import Idealize.ShloMosaic.Lib.Pipeline.ValueKit

@[expose] public section

set_option maxRecDepth 16384

/-!
The blocks the kernel reads, as entries of its arguments, and the array it ends with.
-/

noncomputable section

namespace Cert.KernelIdeal.Attn

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (c : Dev nD)

/-- Where every window's block lies at each grid point: the weights and biases move by one block a point. -/
theorem idx : ∀ t : Fin cfg0.N, win0_0.index t 0 = 0 ∧ win0_0.index t 1 = 0 ∧ win0_1.index t 0 = t.val ∧ win0_1.index t 1 = 0
    ∧ win0_2.index t 0 = t.val ∧ win0_2.index t 1 = 0 ∧ win0_3.index t 0 = t.val ∧ win0_3.index t 1 = 0
    ∧ win0_4.index t 0 = t.val ∧ win0_4.index t 1 = 0 ∧ win0_5.index t 0 = t.val ∧ win0_5.index t 1 = 0
    ∧ win0_6.index t 0 = t.val ∧ win0_6.index t 1 = 0 ∧ win0_7.index t 0 = 0 ∧ win0_7.index t 1 = 0
    ∧ win0_8.index t 0 = 0 ∧ win0_8.index t 1 = 0 ∧ win0_9.index t 0 = 0 ∧ win0_9.index t 1 = 0 := by
  decide +kernel

/-! ### The operands reshaped before the call -/

theorem v0_at (l : Fin 2048) (f : Fin 768) :
    V m c main_v0 (ix2 l f) = m ((c : Thread nD τ).loc main_arg0) (ix3 0 l f) := by
  simp only [V, V0, hostOps0, List.flatten_cons, List.flatten_nil, List.append_nil, List.cons_append, List.nil_append]
  entry_read
  pointwise

theorem v1_at (r : Fin 768) : V m c main_v1 (ix2 r 0) = m ((c : Thread nD τ).loc main_arg2) (ix1 r) := by
  simp only [V, V0, hostOps0, List.flatten_cons, List.flatten_nil, List.append_nil, List.cons_append, List.nil_append]
  entry_read
  pointwise

theorem v2_at (r : Fin 768) : V m c main_v2 (ix2 r 0) = m ((c : Thread nD τ).loc main_arg4) (ix1 r) := by
  simp only [V, V0, hostOps0, List.flatten_cons, List.flatten_nil, List.append_nil, List.cons_append, List.nil_append]
  entry_read
  pointwise

theorem v3_at (r : Fin 768) : V m c main_v3 (ix2 r 0) = m ((c : Thread nD τ).loc main_arg6) (ix1 r) := by
  simp only [V, V0, hostOps0, List.flatten_cons, List.flatten_nil, List.append_nil, List.cons_append, List.nil_append]
  entry_read
  pointwise

theorem v4_at (e : Fin 768) : V m c main_v4 (ix2 0 e) = m ((c : Thread nD τ).loc main_arg8) (ix1 e) := by
  simp only [V, V0, hostOps0, List.flatten_cons, List.flatten_nil, List.append_nil, List.cons_append, List.nil_append]
  entry_read
  pointwise

/-! ### The blocks -/

theorem x_at (t : Fin cfg0.N) (l : Fin 2048) (f : Fin 768) :
    iblk m c 0 t (ix2 l f) = m ((c : Thread nD τ).loc main_arg0) (ix3 0 l f) := by
  rw [← v0_at m c l f]
  blk_point [iblk, idx t]

theorem wq_at (t : Fin cfg0.N) (r : Fin 256) (f : Fin 768) (h : 256 * t.val + r.val < 768) :
    iblk m c 1 t (ix2 r f) = m ((c : Thread nD τ).loc main_arg1) (ix2 ⟨256 * t.val + r.val, h⟩ f) := by
  blk_point [iblk, V, idx t]

theorem bq_at (t : Fin cfg0.N) (r : Fin 256) (h : 256 * t.val + r.val < 768) :
    iblk m c 2 t (ix2 r 0) = m ((c : Thread nD τ).loc main_arg2) (ix1 ⟨256 * t.val + r.val, h⟩) := by
  rw [← v1_at m c ⟨256 * t.val + r.val, h⟩]
  blk_point [iblk, idx t]

theorem wk_at (t : Fin cfg0.N) (r : Fin 256) (f : Fin 768) (h : 256 * t.val + r.val < 768) :
    iblk m c 3 t (ix2 r f) = m ((c : Thread nD τ).loc main_arg3) (ix2 ⟨256 * t.val + r.val, h⟩ f) := by
  blk_point [iblk, V, idx t]

theorem bk_at (t : Fin cfg0.N) (r : Fin 256) (h : 256 * t.val + r.val < 768) :
    iblk m c 4 t (ix2 r 0) = m ((c : Thread nD τ).loc main_arg4) (ix1 ⟨256 * t.val + r.val, h⟩) := by
  rw [← v2_at m c ⟨256 * t.val + r.val, h⟩]
  blk_point [iblk, idx t]

theorem wv_at (t : Fin cfg0.N) (r : Fin 256) (f : Fin 768) (h : 256 * t.val + r.val < 768) :
    iblk m c 5 t (ix2 r f) = m ((c : Thread nD τ).loc main_arg5) (ix2 ⟨256 * t.val + r.val, h⟩ f) := by
  blk_point [iblk, V, idx t]

theorem bv_at (t : Fin cfg0.N) (r : Fin 256) (h : 256 * t.val + r.val < 768) :
    iblk m c 6 t (ix2 r 0) = m ((c : Thread nD τ).loc main_arg6) (ix1 ⟨256 * t.val + r.val, h⟩) := by
  rw [← v3_at m c ⟨256 * t.val + r.val, h⟩]
  blk_point [iblk, idx t]

theorem wo_at (t : Fin cfg0.N) (e f : Fin 768) :
    iblk m c 7 t (ix2 e f) = m ((c : Thread nD τ).loc main_arg7) (ix2 e f) := by
  blk_point [iblk, V, idx t]

theorem bo_at (t : Fin cfg0.N) (e : Fin 768) :
    iblk m c 8 t (ix2 0 e) = m ((c : Thread nD τ).loc main_arg8) (ix1 e) := by
  rw [← v4_at m c e]
  blk_point [iblk, idx t]

/-! ### The array the call leaves, and the result -/

theorem out_arr : (dats m 0 c).arrAt 9 cfg0.N = outVal m c := by
  refine (dats m 0 c).arrAt_eq_of_after_last 9 t0_2 (by decide +kernel) _ fun j => ?_
  blk_simp
  blk_point [idx t0_2]

theorem result_at (l : Fin 2048) (e : Fin 768) :
    Pipeline.afterTail₀ cfgs (dats m) 0 (V0 m) [hostOps1] c main_v6 (ix3 0 l e) = outVal m c (ix2 l e) := by
  unfold Pipeline.afterTail₀
  simp only [hostOps1, List.flatten_cons, List.flatten_nil, List.append_nil, List.cons_append, List.nil_append]
  entry_read
  have e9 : Pipeline.withArrays (cfgs 0).spec c (V0 m c) (fun w => (dats m 0 c).arrAt w (cfgs 0).N) (Proc.tc.devRef main_v5)
      = outVal m c :=
    (Pipeline.withArrays_arr (cfgs 0).spec (by decide) c (V0 m c) (fun w => (dats m 0 c).arrAt w (cfgs 0).N) 9).trans (out_arr m c)
  rw [e9]
  generalize outVal m c = z
  pointwise

end Cert.KernelIdeal.Attn
end
-- ==== Proof.Scalars.lean ====
module

public import Idealize.ShloMosaic.Lib.Pointwise
public import Idealize.ShloMosaic.Lib.WordCmp

@[expose] public section

set_option maxRecDepth 16384

/-!
The scalar facts the reads share: the literals as extended reals, a one-bit word as zero or one, floor division of
small index words by 128, and sums and products of extended reals with a real factor.
-/

noncomputable section

namespace Cert.Attn

open Idealize.ShloMosaic

theorem lit_negInf : Ideal.ofBits .f32 0xFF800000#32 = ⊥ := by simp [Ideal.ofBits, Ideal.ieee]

theorem lit_128 : Ideal.ofBits .f32 0x43000000#32 = ((128 : ℝ) : EReal) := by
  simp [Ideal.ofBits, Ideal.ieee, -EReal.coe_mul]; norm_num

theorem lit_eighth : Ideal.ofBits .f32 0x3E000000#32 = ((1 / 8 : ℝ) : EReal) := by
  simp [Ideal.ofBits, Ideal.ieee, -EReal.coe_mul]; norm_num

/-- A bit widened to a word and read as a signed integer is zero or one. -/
theorem bit_sitofp (p : Prop) [Decidable p] :
    (FloatOps.sitofp .f32 (BitVec.setWidth 32 (BitVec.ofBool (decide p))) : Ideal .f32) = if p then (1 : EReal) else 0 := by
  by_cases h : p
  · simp only [h, decide_true, if_true]
    show (((BitVec.setWidth 32 (BitVec.ofBool true)).toInt : ℝ) : EReal) = 1
    rw [show (BitVec.setWidth 32 (BitVec.ofBool true)).toInt = 1 from by decide]; simp
  · simp only [h, decide_false, if_false]
    show (((BitVec.setWidth 32 (BitVec.ofBool false)).toInt : ℝ) : EReal) = 0
    rw [show (BitVec.setWidth 32 (BitVec.ofBool false)).toInt = 0 from by decide]; simp

/-- A bit read as an unsigned integer is zero or one. -/
theorem bit_uitofp (p : Prop) [Decidable p] :
    (FloatOps.uitofp .f32 (BitVec.ofBool (decide p)) : Ideal .f32) = if p then (1 : EReal) else 0 := by
  by_cases h : p
  · simp only [h, decide_true, if_true]
    show (((BitVec.ofBool true).toNat : ℝ) : EReal) = 1
    simp
  · simp only [h, decide_false, if_false]
    show (((BitVec.ofBool false).toNat : ℝ) : EReal) = 0
    simp

theorem select_bit {α : Type} (p : Prop) [Decidable p] (a b : α) :
    Scalar.select (BitVec.ofBool (decide p)) a b = if p then a else b := by
  by_cases h : p <;> simp [h, Scalar.select]

theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s h ih => rw [Finset.sum_insert h, Finset.sum_insert h, ih, EReal.coe_add]

/-- A nonnegative real factor distributes over a sum of extended reals. -/
theorem sum_mul_real {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s h ih =>
    rw [Finset.sum_insert h, Finset.sum_insert h, ← ih]
    exact EReal.right_distrib_of_nonneg_of_ne_top (by exact_mod_cast hc) (EReal.coe_ne_top c) _ _

theorem div_real (x y : ℝ) (hy : y ≠ 0) : Ideal.div (x : EReal) (y : EReal) = ((x / y : ℝ) : EReal) := by
  rw [Ideal.div_coe hy, ← EReal.coe_mul]; congr 1; ring

end Cert.Attn
end
-- ==== Proof.KRead.lean ====
module

public import proofs.«01_k».proof.Proof.Head
public import proofs.«01_k».proof.Proof.Scalars
public import Idealize.ShloMosaic.Lib.MatmulPlain

@[expose] public section

set_option maxRecDepth 16384

/-!
The stages of the kernel's body read at an index, over the extended reals.
-/

noncomputable section

namespace Cert.KernelIdeal.Attn

open Idealize.ShloMosaic Idealize.SL.Sem Cert.KernelIdeal Cert.KernelIdeal.Gen Cert.Attn

theorem proj_at (x : Vec Ideal S2048x768 .f32) (w : Vec Ideal S256x768 .f32) (b : Vec Ideal S256x1 .f32) (r : Fin 256) (l : Fin 2048) :
    proj x w b (ix2 r l) = (∑ f : Fin 768, w (ix2 r f) * x (ix2 l f)) + b (ix2 r 0) := by
  pointwise [proj]

/-- Floor division by 128 of one word, as the kernel computes it. -/
def floorWord (x : BitVec 32) : BitVec 32 := floorBlk ⟨0, ![]⟩ (fun _ => x) (fun a => a.elim0)

theorem floorBlk_at (s : Shape) (v : IVec s 32) (i : s.Idx) : floorBlk s v i = floorWord (v i) := rfl

theorem floorWord_ofNat : ∀ l : Fin 2048, floorWord (BitVec.ofNat 32 l.val) = BitVec.ofNat 32 (l.val / 128) := by
  decide +kernel

theorem queryBlk_at (n : Fin 16) (l : Fin 2048) : queryBlk (ix2 n l) = BitVec.ofNat 32 (l.val / 128) := by
  rw [queryBlk, floorBlk_at]
  refine Eq.trans ?_ (floorWord_ofNat l)
  congr 1
  pointwise

theorem blkNo_at (n : Fin 16) (l : Fin 2048) : blkNo (ix2 n l) = BitVec.ofNat 32 n.val := by
  pointwise [blkNo]

theorem rawGate_at (q k : FVec Ideal S64x2048 .f32) (n : Fin 16) (l : Fin 2048) : rawGate q k (ix2 n l)
   = ∑ d : Fin 64, Ideal.div (∑ i : Fin 128, k (ix2 d ⟨128 * n.val + i.val, by omega⟩)) ((128 : ℝ) : EReal) * q (ix2 d l) := by
  pointwise [rawGate]
  rw [lit_128]
  simp only [Nat.mul_comm]

theorem gate_at (q k : FVec Ideal S64x2048 .f32) (n : Fin 16) (l : Fin 2048) :
    gate q k (ix2 n l) = if l.val / 128 < n.val then ⊥ else rawGate q k (ix2 n l) := by
  pointwise [gate]
  rw [blkNo_at, queryBlk_at, WordCmp.cmpi_sgt_ofNat (by omega) (by omega), select_bit, lit_negInf]

theorem causal_at (n : Fin 128) (l : Fin 128) : causal (F := Ideal) (ix2 n l) = if n ≤ l then 1 else 0 := by
  pointwise [causal, ofMask]
  rw [WordCmp.cmpi_sle_ofNat (by omega) (by omega), bit_sitofp]
  rfl

theorem selfExp_at (q k : FVec Ideal S64x2048 .f32) (o : Nat) (h) (ho : o + 128 ≤ 2048) (i j : Fin 128) :
    selfExp q k o h (ix2 i j) = Ideal.exp ((∑ d : Fin 64, k (ix2 d ⟨o + i.val, by omega⟩) * q (ix2 d ⟨o + j.val, by omega⟩))
      * ((1 / 8 : ℝ) : EReal)) * if i ≤ j then 1 else 0 := by
  pointwise [selfExp]
  rw [lit_eighth, causal_at]

theorem selfBlk_at (q k v : FVec Ideal S64x2048 .f32) (o : Nat) (h) (ho : o + 128 ≤ 2048) (i : Fin 64) (j : Fin 128) :
    selfBlk q k v o h (ix2 i j) = Ideal.div (∑ x : Fin 128, v (ix2 i ⟨o + x.val, by omega⟩) * selfExp q k o h (ix2 x j))
      (∑ x : Fin 128, selfExp q k o h (ix2 x j)) := by
  pointwise [selfBlk]

theorem members_at (n : Fin 512) (l : Fin 4) : members (F := Ideal) (ix2 n l) = if n.val / 128 = l.val then 1 else 0 := by
  have e : floorBlk S512x4 (iota .tc S512x4 32 [0] iota_S512x4_d0_w32) (ix2 n l) = BitVec.ofNat 32 (n.val / 128) := by
    rw [floorBlk_at]
    refine Eq.trans ?_ (floorWord_ofNat ⟨n.val, by omega⟩)
    congr 1
    pointwise
  pointwise [members, ofMask]
  rw [e, WordCmp.cmpi_eq_ofNat (by omega) (by omega), bit_sitofp]

theorem ofMask_at {s : Shape} (b : IVec s 1) (i : s.Idx) (p : Prop) [Decidable p] (h : b i = BitVec.ofBool (decide p)) :
    ofMask (F := Ideal) b i = if p then 1 else 0 := by
  have : ofMask (F := Ideal) b i = FloatOps.sitofp .f32 (BitVec.setWidth 32 (b i)) := rfl
  rw [this, h, bit_sitofp]

theorem dotT_at (K M N : Nat) (a : FVec Ideal ⟨2, ![K, M]⟩ .f32) (b : FVec Ideal ⟨2, ![K, N]⟩ .f32) (i : Fin M) (j : Fin N) :
    matmul (F := Ideal) (dotT K M N) none a b (constant ⟨2, ![M, N]⟩ .f32 0x00000000#32) (ix2 i j)
      = ∑ k : Fin K, a (ix2 k i) * b (ix2 k j) := by
  refine (Ideal.matmul_apply₁_of (dotT K M N) (a := 0) rfl (K := K) rfl _ _ _ _ (fun k => ix2 k i) (fun k => ix2 k j) ?_ ?_).trans ?_
  · intro k; funext x; fin_cases x <;> rfl
  · intro k; funext x; fin_cases x <;> rfl
  · show Ideal.ofBits .f32 0#32 + _ = _
    rw [Ideal.ofBits_zero_f32, zero_add]

theorem chunkExp_at (n o r hq hk) (q k : FVec Ideal S64x2048 .f32) (ho : o + n ≤ 2048) (hr : r + 512 ≤ 2048) (i : Fin 512) (j : Fin n) :
    chunkExp n o r hq hk q k (ix2 i j) = Ideal.exp ((∑ d : Fin 64, k (ix2 d ⟨r + i.val, by omega⟩) * q (ix2 d ⟨o + j.val, by omega⟩))
      * ((1 / 8 : ℝ) : EReal)) := by
  have e := dotT_at 64 512 n (extractStridedSlice S64x512 ![0, r] k hk) (extractStridedSlice ⟨2, ![64, n]⟩ ![0, o] q hq) i j
  show Ideal.exp (matmul (F := Ideal) (dotT 64 512 n) none (extractStridedSlice S64x512 ![0, r] k hk) (extractStridedSlice ⟨2, ![64, n]⟩ ![0, o] q hq)
    (constant ⟨2, ![512, n]⟩ .f32 0x00000000#32) (ix2 i j) * Ideal.ofBits .f32 0x3E000000#32) = _
  rw [e, lit_eighth]
  congr 2
  refine Finset.sum_congr rfl fun d _ => ?_
  congr 1 <;> pointwise

theorem chunkCoef_at (n o c hw w) (e : FVec Ideal ⟨2, ![512, n]⟩ .f32) (ho : o + n ≤ 2048) (hc : c + 4 ≤ 16) (b : Fin 4) (j : Fin n) :
    chunkCoef n o c hw w e (ix2 b j) = Ideal.div (w (ix2 ⟨c + b.val, by omega⟩ ⟨o + j.val, by omega⟩))
      (∑ i : Fin 512, (if i.val / 128 = b.val then 1 else 0) * e (ix2 i j)) := by
  show Ideal.div (extractStridedSlice ⟨2, ![4, n]⟩ ![c, o] w hw (ix2 b j))
    (matmul (F := Ideal) (dotT 512 4 n) none members e (constant ⟨2, ![4, n]⟩ .f32 0x00000000#32) (ix2 b j)) = _
  rw [dotT_at]
  congr 1
  · pointwise
  · exact Finset.sum_congr rfl fun i _ => by rw [members_at]

theorem contrib_at (n r b b' hv he hc hb) (v : FVec Ideal S64x2048 .f32) (e : FVec Ideal ⟨2, ![512, n]⟩ .f32) (c : FVec Ideal ⟨2, ![4, n]⟩ .f32)
    (hr : r + 128 ≤ 2048) (hb' : b' + 128 ≤ 512) (hb4 : b < 4) (i : Fin 64) (j : Fin n) :
   contrib n r b b' hv he hc hb v e c (ix2 i j)
    = (∑ x : Fin 128, v (ix2 i ⟨r + x.val, by omega⟩) * e (ix2 ⟨b' + x.val, by omega⟩ j)) * c (ix2 ⟨b, hb4⟩ j) := by
  show FloatOps.matmul (DotDims.plain 64 128 n) none (extractStridedSlice S64x128 ![0, r] v hv) (extractStridedSlice ⟨2, ![128, n]⟩ ![b', 0] e he)
      (constant ⟨2, ![64, n]⟩ .f32 0x00000000#32) (ix2 i j)
    * broadcastTo ⟨2, ![64, n]⟩ (extractStridedSlice ⟨2, ![1, n]⟩ ![b, 0] c hc) hb (ix2 i j) = _
  congr 1
  · refine (Ideal.matmul_apply₁_of (DotDims.plain 64 128 n) (a := 1) rfl (K := 128) rfl _ _ _ _ (fun k => ix2 i k) (fun k => ix2 k j) ?_ ?_).trans ?_
    · intro k; funext x; fin_cases x <;> rfl
    · intro k; funext x; fin_cases x <;> rfl
    · show Ideal.ofBits .f32 0#32 + _ = _
      rw [Ideal.ofBits_zero_f32, zero_add]
      refine Finset.sum_congr rfl fun d _ => ?_
      congr 1
      · pointwise
      · refine congrArg e (funext fun a => Fin.ext ?_)
        fin_cases a
        · rfl
        · exact Nat.zero_add _
  · refine congrArg c (funext fun a => Fin.ext ?_)
    fin_cases a
    · rfl
    · refine (Nat.zero_add _).trans ?_
      by_cases hn : n = 1
      · subst hn
        show _ = j.val
        have := j.isLt
        rw [show j.val = 0 by omega]
        rfl
      · refine (congrArg Fin.val (dif_neg ?_)).trans rfl
        exact hn

end Cert.KernelIdeal.Attn
end
-- ==== Proof.Rank.lean ====
module

public import Idealize.ShloMosaic.Lib.SortFacts
public import Mathlib.Data.EReal.Basic
public import Mathlib.Algebra.Order.BigOperators.Group.Finset

@[expose] public section

/-!
Ranks along a finite list of extended reals, greatest first and equal entries in index order: the rank of an entry
is its place in a stable descending sort, and removing the entry of rank zero lowers every other rank by one.
-/

noncomputable section

namespace Cert.Attn

open Idealize.ShloMosaic

variable {n : Nat}

/-- Entry `a` comes before entry `b`: it is greater, or equal and at a lower index. -/
def Before (g : Fin n → EReal) (a b : Fin n) : Prop := g b < g a ∨ (g a = g b ∧ a < b)

/-- How many entries come before the entry at `a`. -/
def rank (g : Fin n → EReal) (a : Fin n) : Nat := by
  classical exact (Finset.univ.filter fun b => Before g b a).card

theorem Before.irrefl (g : Fin n → EReal) (a : Fin n) : ¬ Before g a a := by
  rintro (h | ⟨_, h⟩) <;> exact lt_irrefl _ h

theorem Before.asymm {g : Fin n → EReal} {a b : Fin n} (h : Before g a b) : ¬ Before g b a := by
  rcases h with h | ⟨e, h⟩ <;> rintro (h' | ⟨e', h'⟩)
  · exact lt_asymm h h'
  · exact h.ne e'
  · exact h'.ne e
  · exact lt_asymm h h'

theorem Before.trans {g : Fin n → EReal} {a b c : Fin n} (h : Before g a b) (h' : Before g b c) : Before g a c := by
  rcases h with h | ⟨e, h⟩ <;> rcases h' with h' | ⟨e', h'⟩
  · exact .inl (h'.trans h)
  · exact .inl (e' ▸ h)
  · exact .inl (e ▸ h')
  · exact .inr ⟨e.trans e', h.trans h'⟩

theorem Before.total (g : Fin n → EReal) {a b : Fin n} (h : a ≠ b) : Before g a b ∨ Before g b a := by
  rcases lt_trichotomy (g a) (g b) with h' | h' | h'
  · exact .inr (.inl h')
  · rcases lt_or_gt_of_ne h with l | l
    · exact .inl (.inr ⟨h', l⟩)
    · exact .inr (.inr ⟨h'.symm, l⟩)
  · exact .inl (.inl h')

theorem rank_eq_zero_iff (g : Fin n → EReal) (a : Fin n) : rank g a = 0 ↔ ∀ b, ¬ Before g b a := by
  classical
  unfold rank
  rw [Finset.card_eq_zero, Finset.filter_eq_empty_iff]
  simp

theorem rank_zero_unique {g : Fin n → EReal} {a b : Fin n} (ha : rank g a = 0) (hb : rank g b = 0) : a = b := by
  by_contra h
  rcases Before.total g h with h' | h'
  · exact (rank_eq_zero_iff g b).mp hb a h'
  · exact (rank_eq_zero_iff g a).mp ha b h'

/-- The list with the entry at `p` removed: it takes the least value. -/
def without (g : Fin n → EReal) (p : Fin n) : Fin n → EReal := fun a => if a = p then ⊥ else g a

theorem rank_without (g : Fin n → EReal) (p a : Fin n) (hp : rank g p = 0) (ha : a ≠ p) (hg : g a ≠ ⊥) :
    rank (without g p) a + 1 = rank g a := by
  classical
  have hpa : Before g p a := (Before.total g ha).resolve_left ((rank_eq_zero_iff g p).mp hp a)
  have e : (Finset.univ.filter fun b => Before g b a) = insert p (Finset.univ.filter fun b => Before (without g p) b a) := by
    ext b
    simp only [Finset.mem_filter, Finset.mem_univ, true_and, Finset.mem_insert]
    by_cases hb : b = p
    · subst hb; exact ⟨fun _ => .inl rfl, fun _ => hpa⟩
    · unfold Before without
      rw [if_neg ha, if_neg hb]
      simp [hb]
  have hn : p ∉ (Finset.univ.filter fun b => Before (without g p) b a) := by
    simp only [Finset.mem_filter, Finset.mem_univ, true_and]
    unfold Before without
    rw [if_neg ha, if_pos rfl]
    rintro (h | ⟨h, _⟩)
    · exact not_lt_bot h
    · exact hg h.symm
  unfold rank
  rw [e, Finset.card_insert_of_notMem hn]

/-- Three successive removals of the first greatest entry reach exactly the entries of rank below three. -/
theorem three_picks (g : Fin n → EReal) (p0 p1 p2 : Fin n) (h0 : rank g p0 = 0) (h1 : rank (without g p0) p1 = 0)
    (h2 : rank (without (without g p0) p1) p2 = 0) (a : Fin n) (hg : g a ≠ ⊥) :
    (a = p0 ∨ a = p1 ∨ a = p2) ↔ rank g a < 3 := by
  by_cases e0 : a = p0
  · subst e0; exact ⟨fun _ => by omega, fun _ => .inl rfl⟩
  have r1 := rank_without g p0 a h0 e0 hg
  have g1 : without g p0 a = g a := if_neg e0
  by_cases e1 : a = p1
  · subst e1; exact ⟨fun _ => by omega, fun _ => .inr (.inl rfl)⟩
  have r2 := rank_without (without g p0) p1 a h1 e1 (g1 ▸ hg)
  have g2 : without (without g p0) p1 a = g a := (if_neg e1).trans g1
  constructor
  · rintro (h | h | h)
    · exact absurd h e0
    · exact absurd h e1
    · subst h; omega
  · intro h
    refine .inr (.inr (rank_zero_unique (g := without (without g p0) p1) ?_ h2))
    omega

/-! ## The stable sort -/

theorem insert_sorted (g : Fin n → EReal) (a : Fin n) (l : List (Fin n)) (ha : ∀ b ∈ l, a < b)
    (hl : l.Pairwise (Before g)) : (insertBefore (fun x y => decide (g y < g x)) a l).Pairwise (Before g) := by
  induction l with
  | nil => exact List.pairwise_singleton _ _
  | cons b l ih =>
    rw [List.pairwise_cons] at hl
    unfold insertBefore
    split
    · rename_i h
      have h : g a < g b := of_decide_eq_true h
      refine List.pairwise_cons.mpr ⟨fun c hc => ?_, ih (fun c hc => ha c (List.mem_cons_of_mem _ hc)) hl.2⟩
      rcases List.mem_cons.mp ((perm_insertBefore _ a l).mem_iff.mp hc) with rfl | hc'
      · exact .inl h
      · exact hl.1 c hc'
    · rename_i h
      have h : ¬ g a < g b := fun h' => h (decide_eq_true h')
      have hab : Before g a b := by
        rcases lt_or_eq_of_le (not_lt.mp h) with h' | h'
        · exact .inl h'
        · exact .inr ⟨h'.symm, ha b List.mem_cons_self⟩
      refine List.pairwise_cons.mpr ⟨fun c hc => ?_, List.pairwise_cons.mpr hl⟩
      rcases List.mem_cons.mp hc with rfl | hc'
      · exact hab
      · exact hab.trans (hl.1 c hc')

theorem sort_sorted (g : Fin n → EReal) (l : List (Fin n)) (hl : l.Pairwise (· < ·)) :
    (stableSort (fun x y => decide (g y < g x)) l).Pairwise (Before g) := by
  induction l with
  | nil => exact List.Pairwise.nil
  | cons a l ih =>
    rw [List.pairwise_cons] at hl
    unfold stableSort
    exact insert_sorted g a _ (fun b hb => hl.1 b ((perm_stableSort _ l).mem_iff.mp hb)) (ih hl.2)

theorem sortedFrom_before (g : Fin n → EReal) (i j : Fin n) (h : i < j) :
    Before g (sortedFrom (fun x y => decide (g y < g x)) i) (sortedFrom (fun x y => decide (g y < g x)) j) := by
  have hp := List.pairwise_iff_get.mp (sort_sorted g (List.finRange n) (List.pairwise_lt_finRange n))
  exact hp (i.cast (length_sortPositions n _).symm) (j.cast (length_sortPositions n _).symm) h

/-- The entry the stable descending sort puts at place `r` has rank `r`. -/
theorem rank_sortedFrom (g : Fin n → EReal) (r : Fin n) : rank g (sortedFrom (fun x y => decide (g y < g x)) r) = r.val := by
  classical
  set f := sortedFrom (fun x y : Fin n => decide (g y < g x)) with hf
  have hinj : Function.Injective f := sortedFrom_injective _
  have e : (Finset.univ.filter fun b => Before g b (f r)) = (Finset.univ.filter fun i : Fin n => i < r).image f := by
    ext b
    simp only [Finset.mem_filter, Finset.mem_univ, true_and, Finset.mem_image]
    constructor
    · intro hb
      obtain ⟨i, rfl⟩ := sortedFrom_surjective (fun x y : Fin n => decide (g y < g x)) b
      refine ⟨i, ?_, rfl⟩
      rcases lt_trichotomy i r with h | h | h
      · exact h
      · subst h; exact absurd hb (Before.irrefl g _)
      · exact absurd hb (sortedFrom_before g r i h).asymm
    · rintro ⟨i, hi, rfl⟩
      exact sortedFrom_before g i r hi
  unfold rank
  rw [e, Finset.card_image_of_injective _ hinj]
  rw [show (Finset.univ.filter fun i : Fin n => i < r) = Finset.Iio r from by ext; simp, Fin.card_Iio]

theorem sortedFrom_eq_iff (g : Fin n → EReal) (r a : Fin n) :
    sortedFrom (fun x y => decide (g y < g x)) r = a ↔ rank g a = r.val := by
  constructor
  · rintro rfl; exact rank_sortedFrom g r
  · intro h
    obtain ⟨i, rfl⟩ := sortedFrom_surjective (fun x y : Fin n => decide (g y < g x)) a
    rw [rank_sortedFrom] at h
    rw [Fin.ext h]

end Cert.Attn
end
-- ==== Proof.Spec.lean ====
module

public import proofs.«01_k».proof.Proof.Rank
public import proofs.«01_k».proof.Proof.Scalars

@[expose] public section

/-!
Block attention for one head as plain mathematics: real queries and keys, values that may be any extended real. Each
query attends, causally, to its own block of 128 keys, and to each of the earlier blocks whose gate is among the three
greatest; each block has its own softmax.
-/

noncomputable section

namespace Cert.Attn

open Idealize.ShloMosaic

/-- The position of the key `i` of the block `n`. -/
def pos (n : Fin 16) (i : Fin 128) : Fin 2048 := ⟨128 * n.val + i.val, by omega⟩

/-- The block of a position. -/
def blk (l : Fin 2048) : Fin 16 := ⟨l.val / 128, by omega⟩

/-- The place of a position inside its block. -/
def off (l : Fin 2048) : Fin 128 := ⟨l.val % 128, by omega⟩

variable (q k : Fin 64 → Fin 2048 → ℝ)

/-- The scaled score of the key at `j` for the query at `l`. -/
def score (j l : Fin 2048) : ℝ := (∑ d, k d j * q d l) * (1 / 8)

/-- The exponential of a score. -/
def es (j l : Fin 2048) : ℝ := Real.exp (score q k j l)

/-- The query against the mean key of a block. -/
def gateR (n : Fin 16) (l : Fin 2048) : ℝ := ∑ d, (∑ i, k d (pos n i)) / 128 * q d l

/-- The gate: a block after the query's own has the least value. -/
def gateE (l : Fin 2048) (n : Fin 16) : EReal := if blk l < n then ⊥ else (gateR q k n l : EReal)

/-- The weight of a block: one when it is before the query's own and its gate is among the three greatest. -/
def wt (n : Fin 16) (l : Fin 2048) : ℝ := by
  classical exact if n < blk l ∧ rank (gateE q k l) n < 3 then 1 else 0

/-- The sum of a block's exponentials. -/
def den (n : Fin 16) (l : Fin 2048) : ℝ := ∑ i, es q k (pos n i) l

/-- The exponentials of the query's own block, masked to the keys not after the query. -/
def own (l : Fin 2048) (i : Fin 128) : ℝ := if i ≤ off l then es q k (pos (blk l) i) l else 0

/-- One feature of one head's output at a position. -/
def headOut (v : Fin 64 → Fin 2048 → EReal) (d : Fin 64) (l : Fin 2048) : EReal :=
  (∑ i, ((own q k l i / ∑ i', own q k l i' : ℝ) : EReal) * v d (pos (blk l) i))
    + ∑ n, ∑ i, ((wt q k n l * (es q k (pos n i) l / den q k n l) : ℝ) : EReal) * v d (pos n i)

theorem es_pos (j l : Fin 2048) : 0 < es q k j l := Real.exp_pos _

theorem den_pos (n : Fin 16) (l : Fin 2048) : 0 < den q k n l :=
  Finset.sum_pos (fun _ _ => es_pos q k _ _) Finset.univ_nonempty

theorem own_nonneg (l : Fin 2048) (i : Fin 128) : 0 ≤ own q k l i := by
  unfold own; split
  · exact (es_pos q k _ _).le
  · exact le_rfl

theorem own_sum_pos (l : Fin 2048) : 0 < ∑ i, own q k l i := by
  refine Finset.sum_pos' (fun i _ => own_nonneg q k l i) ⟨off l, Finset.mem_univ _, ?_⟩
  unfold own; rw [if_pos le_rfl]; exact es_pos q k _ _

theorem wt_nonneg (n : Fin 16) (l : Fin 2048) : 0 ≤ wt q k n l := by
  unfold wt; split <;> norm_num

theorem wt_zero {n : Fin 16} {l : Fin 2048} (h : ¬ n < blk l) : wt q k n l = 0 := by
  unfold wt; rw [if_neg fun h' => h h'.1]

theorem pos_blk_off (l : Fin 2048) : pos (blk l) (off l) = l := by
  apply Fin.ext; simp only [pos, blk, off]; omega

theorem blk_pos (n : Fin 16) (i : Fin 128) : blk (pos n i) = n := by
  apply Fin.ext; simp only [pos, blk]; omega

theorem off_pos (n : Fin 16) (i : Fin 128) : off (pos n i) = i := by
  apply Fin.ext; simp only [pos, off]; omega

/-- A sum over the positions is a sum over the blocks of sums over their keys. -/
theorem sum_pos_eq {M : Type*} [AddCommMonoid M] (f : Fin 2048 → M) : ∑ l, f l = ∑ n, ∑ i, f (pos n i) := by
  rw [← Finset.sum_product', Finset.univ_product_univ]
  refine Finset.sum_bij' (fun l _ => (blk l, off l)) (fun p _ => pos p.1 p.2) (fun _ _ => Finset.mem_univ _) (fun _ _ => Finset.mem_univ _)
    (fun l _ => pos_blk_off l) (fun p _ => by simp [blk_pos, off_pos]) (fun l _ => by rw [pos_blk_off])

end Cert.Attn
end
-- ==== Proof.KPick.lean ====
module

public import proofs.«01_k».proof.Proof.KRead
public import proofs.«01_k».proof.Proof.Spec

@[expose] public section

set_option maxRecDepth 16384

/-!
The three picks of the kernel are the three greatest gates: each pick is the entry of rank zero among those left.
-/

noncomputable section

namespace Cert.KernelIdeal.Attn

open Idealize.ShloMosaic Idealize.SL.Sem Cert.KernelIdeal Cert.KernelIdeal.Gen Cert.Attn

theorem minsi_toInt (x y : BitVec 32) : (IntOp.minsi x y).toInt = min x.toInt y.toInt := by
  unfold IntOp.minsi
  simp only [BitVec.slt, BitVec.sle]
  by_cases h : x.toInt ≤ y.toInt
  · rw [min_eq_left h]
    split
    · rfl
    · rename_i h'; simp at h'; omega
  · rw [min_eq_right (by omega)]
    split
    · rename_i h'; simp at h'; omega
    · rfl

/-- A least fold over words is the entry below all the others and the start. -/
theorem fold_minsi_eq {ι : Type*} (s : Finset ι) (f : ι → BitVec 32) (z : BitVec 32) (a : ι) (ha : a ∈ s)
    (h : ∀ x ∈ s, (f a).toInt ≤ (f x).toInt) (hz : (f a).toInt ≤ z.toInt) : Finset.fold IntOp.minsi z f s = f a := by
  classical
  have lo : ∀ t : Finset ι, t ⊆ s → (f a).toInt ≤ (Finset.fold IntOp.minsi z f t).toInt := by
    intro t
    induction t using Finset.induction_on with
    | empty => intro _; simpa using hz
    | insert b t hb ih =>
      intro ht
      rw [Finset.fold_insert hb, minsi_toInt]
      exact le_min (h b (ht (Finset.mem_insert_self _ _))) (ih fun x hx => ht (Finset.mem_insert_of_mem hx))
  have hi : (Finset.fold IntOp.minsi z f s).toInt ≤ (f a).toInt := by
    rw [← Finset.insert_erase ha, Finset.fold_insert (Finset.notMem_erase a s), minsi_toInt]
    exact min_le_left _ _
  exact BitVec.eq_of_toInt_eq (le_antisymm hi (lo s subset_rfl))

theorem fold_max_eq {n : Nat} (g : Fin n → EReal) (p : Fin n) (hp : rank g p = 0) : Finset.fold max ⊥ g Finset.univ = g p := by
  refine le_antisymm ?_ ?_
  · rw [Finset.fold_max_le]
    exact ⟨bot_le, fun x _ => not_lt.mp fun h => (rank_eq_zero_iff g p).mp hp x (.inl h)⟩
  · rw [Finset.le_fold_max]
    exact .inr ⟨p, Finset.mem_univ _, le_rfl⟩

/-- Some entry has rank zero. -/
theorem exists_first (g : Fin 16 → EReal) : ∃ p, rank g p = 0 :=
  ⟨sortedFrom (fun x y => decide (g y < g x)) 0, ((sortedFrom_eq_iff g 0 _).mp rfl).trans rfl⟩

/-- A column of a vector over the blocks. -/
def col (g : FVec Ideal S16x2048 .f32) (l : Fin 2048) (n : Fin 16) : EReal := g (ix2 n l)

theorem toInt_small (a : Nat) (h : a < 2147483648) : (BitVec.ofNat 32 a).toInt = a := by
  exact WordCmp.toInt_ofNat_of_lt (by omega)

theorem pick_at (g : FVec Ideal S16x2048 .f32) (p : Fin 16) (l : Fin 2048) (hp : rank (col g l) p = 0) (n : Fin 16) :
    pick g (ix2 n l) = BitVec.ofBool (decide (n = p)) := by
  pointwise [pick]
  have hM : Finset.fold max (Ideal.ofBits .f32 4286578688#32) (fun x => g (ix2 x l)) Finset.univ = g (ix2 p l) := by
    rw [lit_negInf]; exact fold_max_eq (col g l) p hp
  rw [hM]
  rw [fold_minsi_eq Finset.univ _ _ p (Finset.mem_univ _) ?_ ?_, if_pos rfl, blkNo_at, blkNo_at,
    WordCmp.cmpi_eq_ofNat (by omega) (by omega)]
  · congr 1; exact decide_eq_decide.mpr Fin.ext_iff.symm
  · intro x _
    rw [if_pos rfl, blkNo_at, toInt_small _ (by omega)]
    split
    · rename_i h
      rw [blkNo_at, toInt_small _ (by omega)]
      have : ¬ x < p := fun h' => (rank_eq_zero_iff _ p).mp hp x (.inr ⟨h, h'⟩)
      have := Fin.le_def.mp (not_lt.mp this)
      omega
    · rw [toInt_small 16 (by omega)]; omega
  · rw [if_pos rfl, blkNo_at, toInt_small _ (by omega), toInt_small 2147483647 (by omega)]; omega

theorem drop_col (g : FVec Ideal S16x2048 .f32) (p : Fin 16) (l : Fin 2048) (hp : rank (col g l) p = 0) :
    col (drop g) l = without (col g l) p := by
  funext n
  show drop g (ix2 n l) = _
  pointwise [drop]
  rw [pick_at g p l hp, select_bit, lit_negInf]
  rfl

/-- The greatest of zero and three masks is the mask of their disjunction. -/
theorem max_three (a b c : Prop) [Decidable a] [Decidable b] [Decidable c] :
    max (max (max (0 : EReal) (if a then 1 else 0)) (if b then 1 else 0)) (if c then 1 else 0) = if a ∨ b ∨ c then 1 else 0 := by
  have z1 : max (0 : EReal) 1 = 1 := max_eq_right zero_le_one
  have z2 : max (1 : EReal) 0 = 1 := max_eq_left zero_le_one
  by_cases ha : a <;> by_cases hb : b <;> by_cases hc : c <;> simp [ha, hb, hc]

/-- A block is chosen exactly when its gate is among the three greatest. -/
theorem chosen_at (g : FVec Ideal S16x2048 .f32) (n : Fin 16) (l : Fin 2048) (hn : col g l n ≠ ⊥) :
    chosen g (ix2 n l) = if rank (col g l) n < 3 then 1 else 0 := by
  obtain ⟨p0, h0⟩ := exists_first (col g l)
  obtain ⟨p1, h1⟩ := exists_first (col (drop g) l)
  obtain ⟨p2, h2⟩ := exists_first (col (drop (drop g)) l)
  pointwise [chosen]
  rw [ofMask_at _ _ (n = p0) (pick_at g p0 l h0 n), ofMask_at _ _ (n = p1) (pick_at (drop g) p1 l h1 n),
    ofMask_at _ _ (n = p2) (pick_at (drop (drop g)) p2 l h2 n)]
  rw [drop_col (drop g) p1 l h1] at h2
  rw [drop_col g p0 l h0] at h1 h2
  have key := three_picks (col g l) p0 p1 p2 h0 h1 h2 n hn
  rw [max_three, if_congr key rfl rfl]

theorem weight_at (q k : FVec Ideal S64x2048 .f32) (qr kr : Fin 64 → Fin 2048 → ℝ) (hg : ∀ l, col (gate q k) l = gateE qr kr l)
    (n : Fin 16) (l : Fin 2048) : weight q k (ix2 n l) = ((wt qr kr n l : ℝ) : EReal) := by
  pointwise [weight]
  rw [ofMask_at _ _ (n < blk l)]
  · by_cases h : n < blk l
    · have hb : ¬ blk l < n := not_lt.mpr h.le
      rw [chosen_at _ _ _ (by rw [hg, gateE, if_neg hb]; exact EReal.coe_ne_bot _), hg, if_pos h, mul_one, wt]
      by_cases h' : rank (gateE qr kr l) n < 3 <;> simp [h, h']
    · rw [if_neg h, mul_zero, wt_zero _ _ h]; rfl
  · show IntOp.cmpi .slt (blkNo (ix2 n l)) (queryBlk (ix2 n l)) = _
    rw [blkNo_at, queryBlk_at, WordCmp.cmpi_slt_ofNat (by omega) (by omega)]
    rfl

theorem rawGate_real (q k : FVec Ideal S64x2048 .f32) (qr kr : Fin 64 → Fin 2048 → ℝ) (hq : ∀ d l, q (ix2 d l) = qr d l)
    (hk : ∀ d l, k (ix2 d l) = kr d l) (n : Fin 16) (l : Fin 2048) : rawGate q k (ix2 n l) = ((gateR qr kr n l : ℝ) : EReal) := by
  rw [rawGate_at, gateR, ← coe_sum]
  refine Finset.sum_congr rfl fun d _ => ?_
  rw [hq, EReal.coe_mul, ← div_real _ _ (by norm_num), ← coe_sum]
  congr 2
  exact Finset.sum_congr rfl fun i _ => hk _ _

theorem gate_real (q k : FVec Ideal S64x2048 .f32) (qr kr : Fin 64 → Fin 2048 → ℝ) (hq : ∀ d l, q (ix2 d l) = qr d l)
    (hk : ∀ d l, k (ix2 d l) = kr d l) (l : Fin 2048) : col (gate q k) l = gateE qr kr l := by
  funext n
  show gate q k (ix2 n l) = _
  rw [gate_at, rawGate_real q k qr kr hq hk]
  rfl

end Cert.KernelIdeal.Attn
end
-- ==== Proof.KHead.lean ====
module

public import proofs.«01_k».proof.Proof.KPick

@[expose] public section

set_option maxRecDepth 16384

/-!
One head of the kernel, for real queries and keys, is block attention.
-/

noncomputable section

namespace Cert.Attn

open Idealize.ShloMosaic

variable (q k : Fin 64 → Fin 2048 → ℝ) (v : Fin 64 → Fin 2048 → EReal)

/-- What the query's own block gives. -/
def selfTerm (d : Fin 64) (l : Fin 2048) : EReal := ∑ i, ((own q k l i / ∑ i', own q k l i' : ℝ) : EReal) * v d (pos (blk l) i)

/-- What the block `n` gives. -/
def blkTerm (d : Fin 64) (l : Fin 2048) (n : Fin 16) : EReal :=
  ∑ i, ((wt q k n l * (es q k (pos n i) l / den q k n l) : ℝ) : EReal) * v d (pos n i)

theorem headOut_eq (d : Fin 64) (l : Fin 2048) : headOut q k v d l = selfTerm q k v d l + ∑ n, blkTerm q k v d l n := rfl

theorem blkTerm_zero (d : Fin 64) (l : Fin 2048) (n : Fin 16) (h : ¬ n < blk l) : blkTerm q k v d l n = 0 := by
  unfold blkTerm
  refine Finset.sum_eq_zero fun i _ => ?_
  rw [wt_zero q k h, zero_mul, EReal.coe_zero, zero_mul]

/-- Four consecutive entries, from the entry `4 * c`. -/
def four (t : Fin 16 → EReal) (c : Nat) (hc : c < 4) : EReal :=
  t ⟨4 * c, by omega⟩ + t ⟨4 * c + 1, by omega⟩ + t ⟨4 * c + 2, by omega⟩ + t ⟨4 * c + 3, by omega⟩

theorem sum_fours (t : Fin 16 → EReal) : ∑ n, t n = four t 0 (by omega) + four t 1 (by omega) + four t 2 (by omega) + four t 3 (by omega) := by
  simp only [Fin.sum_univ_succ, Fin.sum_univ_zero, four]
  simp only [add_zero, ← add_assoc]
  rfl

theorem four_zero (t : Fin 16 → EReal) (c : Nat) (hc : c < 4) (h : ∀ n : Fin 16, 4 * c ≤ n.val → t n = 0) : four t c hc = 0 := by
  unfold four
  rw [h _ le_rfl, h _ (by simp), h _ (by simp), h _ (by simp)]
  simp

/-- The chunks that start at or after the query's own block give nothing. -/
theorem four_blkTerm_zero (d : Fin 64) (l : Fin 2048) (c : Nat) (hc : c < 4) (h : (blk l).val ≤ 4 * c) :
    four (blkTerm q k v d l) c hc = 0 :=
  four_zero _ c hc fun n hn => blkTerm_zero q k v d l n fun h' => by have := Fin.lt_def.mp h'; omega

/-- The exponentials of one block of a chunk, picked out of the chunk by a mask. -/
theorem sum_chunk_block (f : Fin 2048 → ℝ) (R b : Nat) (hb : b < 4) (hR : R + 512 ≤ 2048) (N : Fin 16) (hN : 128 * N.val = R + 128 * b) :
    ∑ i : Fin 512, (if i.val / 128 = b then (1 : ℝ) else 0) * f ⟨R + i.val, by omega⟩ = ∑ i, f (pos N i) := by
  classical
  simp only [ite_mul, one_mul, zero_mul]
  rw [← Finset.sum_filter]
  refine Finset.sum_bij' (fun i _ => (⟨i.val % 128, by omega⟩ : Fin 128)) (fun x _ => (⟨128 * b + x.val, by omega⟩ : Fin 512))
    (fun _ _ => Finset.mem_univ _) (fun x _ => ?_) (fun i hi => ?_) (fun x _ => ?_) (fun i hi => ?_)
  · rw [Finset.mem_filter]; exact ⟨Finset.mem_univ _, by show (128 * b + x.val) / 128 = b; omega⟩
  · have := (Finset.mem_filter.mp hi).2; apply Fin.ext; show 128 * b + i.val % 128 = i.val; omega
  · apply Fin.ext; show (128 * b + x.val) % 128 = x.val; omega
  · have := (Finset.mem_filter.mp hi).2; congr 1; apply Fin.ext; show R + i.val = 128 * N.val + i.val % 128; omega

end Cert.Attn

namespace Cert.KernelIdeal.Attn

open Idealize.ShloMosaic Idealize.SL.Sem Cert.KernelIdeal Cert.KernelIdeal.Gen Cert.Attn

variable (q k v : FVec Ideal S64x2048 .f32) (qr kr : Fin 64 → Fin 2048 → ℝ)

/-- The values of a head, by feature and position. -/
def vals (v : FVec Ideal S64x2048 .f32) (d : Fin 64) (l : Fin 2048) : EReal := v (ix2 d l)

theorem exp_score (hq : ∀ d l, q (ix2 d l) = qr d l) (hk : ∀ d l, k (ix2 d l) = kr d l) (j l : Fin 2048) :
    Ideal.exp ((∑ d : Fin 64, k (ix2 d j) * q (ix2 d l)) * ((1 / 8 : ℝ) : EReal)) = ((es qr kr j l : ℝ) : EReal) := by
  have : ∑ d : Fin 64, k (ix2 d j) * q (ix2 d l) = ((∑ d, kr d j * qr d l : ℝ) : EReal) := by
    rw [← coe_sum]
    exact Finset.sum_congr rfl fun d _ => by rw [hq, hk, EReal.coe_mul]
  rw [this, ← EReal.coe_mul]
  rfl

/-- What one block of a chunk adds is that block's term. -/
theorem contrib_term (hq : ∀ d l, q (ix2 d l) = qr d l) (hk : ∀ d l, k (ix2 d l) = kr d l)
    (n o R c r b b' : Nat) (hsq hsk hw hv he hc hb) (N : Fin 16) (ho : o + n ≤ 2048) (hb4 : b < 4) (hc4 : c + 4 ≤ 16) (hR : R = 128 * c)
    (hr : r = 128 * N.val) (hN : N.val = c + b) (hb' : b' = 128 * b) (d : Fin 64) (j : Fin n) (l : Fin 2048) (hl : l.val = o + j.val) :
    contrib n r b b' hv he hc hb v (chunkExp n o R hsq hsk q k) (chunkCoef n o c hw (weight q k) (chunkExp n o R hsq hsk q k)) (ix2 d j)
      = blkTerm qr kr (vals v) d l N := by
  have hE : ∀ i : Fin 512, chunkExp n o R hsq hsk q k (ix2 i j) = ((es qr kr ⟨R + i.val, by omega⟩ l : ℝ) : EReal) := by
    intro i
    rw [chunkExp_at n o R hsq hsk q k ho (by omega), ← exp_score q k qr kr hq hk]
    simp only [← hl, Fin.eta]
  have hD : ∑ i : Fin 512, (if i.val / 128 = b then (1 : EReal) else 0) * chunkExp n o R hsq hsk q k (ix2 i j) = ((den qr kr N l : ℝ) : EReal) := by
    rw [den, ← sum_chunk_block (fun x => es qr kr x l) R b hb4 (by omega) N (by omega), ← coe_sum]
    refine Finset.sum_congr rfl fun i _ => ?_
    rw [hE, EReal.coe_mul]
    split <;> simp
  rw [contrib_at n r b b' hv he hc hb v _ _ (by omega) (by omega) hb4, chunkCoef_at n o c hw _ _ ho (by omega), hD,
    weight_at q k qr kr (gate_real q k qr kr hq hk), div_real _ _ (den_pos qr kr N l).ne']
  have hn : (⟨c + b, by omega⟩ : Fin 16) = N := Fin.ext hN.symm
  have hl' : (⟨o + j.val, by omega⟩ : Fin 2048) = l := Fin.ext hl.symm
  simp only [hn, hl']
  rw [sum_mul_real _ _ _ (div_nonneg (wt_nonneg qr kr N l) (den_pos qr kr N l).le), blkTerm]
  refine Finset.sum_congr rfl fun x _ => ?_
  rw [hE, mul_assoc, ← EReal.coe_mul, mul_comm]
  have h1 : (⟨r + x.val, by omega⟩ : Fin 2048) = pos N x := Fin.ext (by show r + x.val = 128 * N.val + x.val; omega)
  have h2 : (⟨R + (b' + x.val), by omega⟩ : Fin 2048) = pos N x := Fin.ext (by show R + (b' + x.val) = 128 * N.val + x.val; omega)
  simp only [h1, h2]
  congr 2
  ring

theorem acc0_at (hq : ∀ d l, q (ix2 d l) = qr d l) (hk : ∀ d l, k (ix2 d l) = kr d l) (d : Fin 64) (j : Fin 1920) (l : Fin 2048)
    (hl : l.val = 128 + j.val) : acc0 q k v (weight q k) (ix2 d j) = four (blkTerm qr kr (vals v) d l) 0 (by omega) := by
  refine congrArg₂ (· + ·) (congrArg₂ (· + ·) (congrArg₂ (· + ·) ?_ ?_) ?_) ?_ <;>
    exact contrib_term q k v qr kr hq hk _ _ _ _ _ _ _ _ _ _ _ _ _ _ _ (by norm_num) (by norm_num) (by norm_num) (by norm_num) (by norm_num) (by norm_num) (by norm_num) d j l hl

theorem acc1_at (hq : ∀ d l, q (ix2 d l) = qr d l) (hk : ∀ d l, k (ix2 d l) = kr d l) (d : Fin 64) (j : Fin 1408) (l : Fin 2048)
    (hl : l.val = 640 + j.val) : acc1 q k v (weight q k) (ix2 d j) = four (blkTerm qr kr (vals v) d l) 1 (by omega) := by
  refine congrArg₂ (· + ·) (congrArg₂ (· + ·) (congrArg₂ (· + ·) ?_ ?_) ?_) ?_ <;>
    exact contrib_term q k v qr kr hq hk _ _ _ _ _ _ _ _ _ _ _ _ _ _ _ (by norm_num) (by norm_num) (by norm_num) (by norm_num) (by norm_num) (by norm_num) (by norm_num) d j l hl

theorem acc2_at (hq : ∀ d l, q (ix2 d l) = qr d l) (hk : ∀ d l, k (ix2 d l) = kr d l) (d : Fin 64) (j : Fin 896) (l : Fin 2048)
    (hl : l.val = 1152 + j.val) : acc2 q k v (weight q k) (ix2 d j) = four (blkTerm qr kr (vals v) d l) 2 (by omega) := by
  refine congrArg₂ (· + ·) (congrArg₂ (· + ·) (congrArg₂ (· + ·) ?_ ?_) ?_) ?_ <;>
    exact contrib_term q k v qr kr hq hk _ _ _ _ _ _ _ _ _ _ _ _ _ _ _ (by norm_num) (by norm_num) (by norm_num) (by norm_num) (by norm_num) (by norm_num) (by norm_num) d j l hl

theorem acc3_at (hq : ∀ d l, q (ix2 d l) = qr d l) (hk : ∀ d l, k (ix2 d l) = kr d l) (d : Fin 64) (j : Fin 384) (l : Fin 2048)
    (hl : l.val = 1664 + j.val) : acc3 q k v (weight q k) (ix2 d j) = four (blkTerm qr kr (vals v) d l) 3 (by omega) := by
  refine congrArg₂ (· + ·) (congrArg₂ (· + ·) (congrArg₂ (· + ·) ?_ ?_) ?_) ?_ <;>
    exact contrib_term q k v qr kr hq hk _ _ _ _ _ _ _ _ _ _ _ _ _ _ _ (by norm_num) (by norm_num) (by norm_num) (by norm_num) (by norm_num) (by norm_num) (by norm_num) d j l hl

/-- Attention inside a block is the own block's term. -/
theorem selfBlk_term (hq : ∀ d l, q (ix2 d l) = qr d l) (hk : ∀ d l, k (ix2 d l) = kr d l) (B : Fin 16) (o : Nat) (h)
    (ho : o = 128 * B.val) (d : Fin 64) (j : Fin 128) : selfBlk q k v o h (ix2 d j) = selfTerm qr kr (vals v) d (pos B j) := by
  have hP : ∀ i : Fin 128, (⟨o + i.val, by omega⟩ : Fin 2048) = pos B i := fun i => Fin.ext (by show o + i.val = 128 * B.val + i.val; omega)
  have hE : ∀ i : Fin 128, selfExp q k o h (ix2 i j) = ((own qr kr (pos B j) i : ℝ) : EReal) := by
    intro i
    rw [selfExp_at q k o h (by omega)]
    simp only [hP]
    rw [exp_score q k qr kr hq hk, own, blk_pos, off_pos]
    split <;> simp
  rw [selfBlk_at q k v o h (by omega)]
  simp only [hE, hP]
  have hs := own_sum_pos qr kr (pos B j)
  rw [coe_sum, Ideal.div_coe hs.ne', sum_mul_real _ _ _ (by positivity), selfTerm, blk_pos]
  refine Finset.sum_congr rfl fun x _ => ?_
  rw [mul_assoc, ← EReal.coe_mul, mul_comm]
  unfold vals
  congr 2
  ring

theorem slice_at (n x : Nat) (a : FVec Ideal ⟨2, ![64, n]⟩ .f32) (h : (⟨2, ![64, n]⟩ : Shape).Slices ![0, x] S64x128) (hx : x + 128 ≤ n)
    (d : Fin 64) (j : Fin 128) : extractStridedSlice S64x128 ![0, x] a h (ix2 d j) = a (ix2 d ⟨x + j.val, by omega⟩) := by
  refine congrArg a (funext fun a => Fin.ext ?_)
  fin_cases a
  · exact Nat.zero_add _
  · rfl

/-- Sixteen blocks of columns side by side, read at a column of one of them. -/
theorem sixteen_at (p0 p1 p2 p3 p4 p5 p6 p7 p8 p9 p10 p11 p12 p13 p14 p15 : FVec Ideal S64x128 .f32) (h) (B : Fin 16) (d : Fin 64) (j : Fin 128) :
    concatenate S64x2048 1 [⟨S64x128, p0⟩, ⟨S64x128, p1⟩, ⟨S64x128, p2⟩, ⟨S64x128, p3⟩, ⟨S64x128, p4⟩, ⟨S64x128, p5⟩, ⟨S64x128, p6⟩,
        ⟨S64x128, p7⟩, ⟨S64x128, p8⟩, ⟨S64x128, p9⟩, ⟨S64x128, p10⟩, ⟨S64x128, p11⟩, ⟨S64x128, p12⟩, ⟨S64x128, p13⟩, ⟨S64x128, p14⟩,
        ⟨S64x128, p15⟩] h (ix2 d (pos B j))
      = (![p0, p1, p2, p3, p4, p5, p6, p7, p8, p9, p10, p11, p12, p13, p14, p15] : Fin 16 → FVec Ideal S64x128 .f32) B (ix2 d j) := by
  refine concatenate_ofFn_apply (s₁ := S64x128) (t := S64x2048) 1
    (![p0, p1, p2, p3, p4, p5, p6, p7, p8, p9, p10, p11, p12, p13, p14, p15] : Fin 16 → FVec Ideal S64x128 .f32) h rfl 128 rfl
    (ix2 d (pos B j)) B ?_ (ix2 d j) ?_ ?_
  · show (128 * B.val + j.val) / 128 = B.val; omega
  · show j.val = (128 * B.val + j.val) % 128; omega
  · intro b hb
    fin_cases b
    · rfl
    · exact absurd rfl hb

variable {q k v qr kr}

theorem piece0 (hq : ∀ d l, q (ix2 d l) = qr d l) (hk : ∀ d l, k (ix2 d l) = kr d l) (B : Fin 16) (o : Nat) (h) (ho : o = 128 * B.val)
    (hB : B.val = 0) (d : Fin 64) (j : Fin 128) : selfBlk q k v o h (ix2 d j) = headOut qr kr (vals v) d (pos B j) := by
  rw [selfBlk_term q k v qr kr hq hk B o h ho, headOut_eq, sum_fours]
  simp only [four_blkTerm_zero qr kr (vals v) d (pos B j) _ _ (show (blk (pos B j)).val ≤ _ by rw [blk_pos, hB]; exact Nat.zero_le _), add_zero]

theorem piece1 (hq : ∀ d l, q (ix2 d l) = qr d l) (hk : ∀ d l, k (ix2 d l) = kr d l) (B : Fin 16) (o x0 : Nat) (h h0) (ho : o = 128 * B.val)
    (hx0 : o = 128 + x0) (hB : B.val ≤ 4) (d : Fin 64) (j : Fin 128) :
    addf (selfBlk q k v o h) (extractStridedSlice S64x128 ![0, x0] (acc0 q k v (weight q k)) h0) (ix2 d j)
      = headOut qr kr (vals v) d (pos B j) := by
  have hz : ∀ c hc, 1 ≤ c → four (blkTerm qr kr (vals v) d (pos B j)) c hc = 0 := fun c hc h1 =>
    four_blkTerm_zero qr kr (vals v) d (pos B j) c hc (by rw [blk_pos]; omega)
  show selfBlk q k v o h (ix2 d j) + extractStridedSlice S64x128 ![0, x0] (acc0 q k v (weight q k)) h0 (ix2 d j) = _
  rw [selfBlk_term q k v qr kr hq hk B o h ho, headOut_eq, sum_fours, slice_at 1920 x0 _ h0 (by omega),
    acc0_at q k v qr kr hq hk d _ (pos B j) (by show 128 * B.val + j.val = 128 + (x0 + j.val); omega),
    hz 1 _ le_rfl, hz 2 _ (by omega), hz 3 _ (by omega), add_zero, add_zero, add_zero]

theorem piece2 (hq : ∀ d l, q (ix2 d l) = qr d l) (hk : ∀ d l, k (ix2 d l) = kr d l) (B : Fin 16) (o x0 x1 : Nat) (h h0 h1)
    (ho : o = 128 * B.val) (hx0 : o = 128 + x0) (hx1 : o = 640 + x1) (hB : B.val ≤ 8) (d : Fin 64) (j : Fin 128) :
    addf (addf (selfBlk q k v o h) (extractStridedSlice S64x128 ![0, x0] (acc0 q k v (weight q k)) h0))
        (extractStridedSlice S64x128 ![0, x1] (acc1 q k v (weight q k)) h1) (ix2 d j)
      = headOut qr kr (vals v) d (pos B j) := by
  have hz : ∀ c hc, 2 ≤ c → four (blkTerm qr kr (vals v) d (pos B j)) c hc = 0 := fun c hc h1 =>
    four_blkTerm_zero qr kr (vals v) d (pos B j) c hc (by rw [blk_pos]; omega)
  show selfBlk q k v o h (ix2 d j) + extractStridedSlice S64x128 ![0, x0] (acc0 q k v (weight q k)) h0 (ix2 d j)
    + extractStridedSlice S64x128 ![0, x1] (acc1 q k v (weight q k)) h1 (ix2 d j) = _
  rw [selfBlk_term q k v qr kr hq hk B o h ho, headOut_eq, sum_fours, slice_at 1920 x0 _ h0 (by omega), slice_at 1408 x1 _ h1 (by omega),
    acc0_at q k v qr kr hq hk d _ (pos B j) (by show 128 * B.val + j.val = 128 + (x0 + j.val); omega),
    acc1_at q k v qr kr hq hk d _ (pos B j) (by show 128 * B.val + j.val = 640 + (x1 + j.val); omega),
    hz 2 _ le_rfl, hz 3 _ (by omega), add_zero, add_zero]
  simp only [add_assoc]

theorem piece3 (hq : ∀ d l, q (ix2 d l) = qr d l) (hk : ∀ d l, k (ix2 d l) = kr d l) (B : Fin 16) (o x0 x1 x2 : Nat) (h h0 h1 h2)
    (ho : o = 128 * B.val) (hx0 : o = 128 + x0) (hx1 : o = 640 + x1) (hx2 : o = 1152 + x2) (hB : B.val ≤ 12) (d : Fin 64) (j : Fin 128) :
    addf (addf (addf (selfBlk q k v o h) (extractStridedSlice S64x128 ![0, x0] (acc0 q k v (weight q k)) h0))
        (extractStridedSlice S64x128 ![0, x1] (acc1 q k v (weight q k)) h1))
        (extractStridedSlice S64x128 ![0, x2] (acc2 q k v (weight q k)) h2) (ix2 d j)
      = headOut qr kr (vals v) d (pos B j) := by
  have hz : four (blkTerm qr kr (vals v) d (pos B j)) 3 (by omega) = 0 :=
    four_blkTerm_zero qr kr (vals v) d (pos B j) 3 _ (by rw [blk_pos]; omega)
  show selfBlk q k v o h (ix2 d j) + extractStridedSlice S64x128 ![0, x0] (acc0 q k v (weight q k)) h0 (ix2 d j)
    + extractStridedSlice S64x128 ![0, x1] (acc1 q k v (weight q k)) h1 (ix2 d j)
    + extractStridedSlice S64x128 ![0, x2] (acc2 q k v (weight q k)) h2 (ix2 d j) = _
  rw [selfBlk_term q k v qr kr hq hk B o h ho, headOut_eq, sum_fours, slice_at 1920 x0 _ h0 (by omega), slice_at 1408 x1 _ h1 (by omega),
    slice_at 896 x2 _ h2 (by omega),
    acc0_at q k v qr kr hq hk d _ (pos B j) (by show 128 * B.val + j.val = 128 + (x0 + j.val); omega),
    acc1_at q k v qr kr hq hk d _ (pos B j) (by show 128 * B.val + j.val = 640 + (x1 + j.val); omega),
    acc2_at q k v qr kr hq hk d _ (pos B j) (by show 128 * B.val + j.val = 1152 + (x2 + j.val); omega), hz, add_zero]
  simp only [add_assoc]

theorem piece4 (hq : ∀ d l, q (ix2 d l) = qr d l) (hk : ∀ d l, k (ix2 d l) = kr d l) (B : Fin 16) (o x0 x1 x2 x3 : Nat) (h h0 h1 h2 h3)
    (ho : o = 128 * B.val) (hx0 : o = 128 + x0) (hx1 : o = 640 + x1) (hx2 : o = 1152 + x2) (hx3 : o = 1664 + x3) (d : Fin 64) (j : Fin 128) :
    addf (addf (addf (addf (selfBlk q k v o h) (extractStridedSlice S64x128 ![0, x0] (acc0 q k v (weight q k)) h0))
        (extractStridedSlice S64x128 ![0, x1] (acc1 q k v (weight q k)) h1))
        (extractStridedSlice S64x128 ![0, x2] (acc2 q k v (weight q k)) h2))
        (extractStridedSlice S64x128 ![0, x3] (acc3 q k v (weight q k)) h3) (ix2 d j)
      = headOut qr kr (vals v) d (pos B j) := by
  show selfBlk q k v o h (ix2 d j) + extractStridedSlice S64x128 ![0, x0] (acc0 q k v (weight q k)) h0 (ix2 d j)
    + extractStridedSlice S64x128 ![0, x1] (acc1 q k v (weight q k)) h1 (ix2 d j)
    + extractStridedSlice S64x128 ![0, x2] (acc2 q k v (weight q k)) h2 (ix2 d j)
    + extractStridedSlice S64x128 ![0, x3] (acc3 q k v (weight q k)) h3 (ix2 d j) = _
  have := B.isLt
  rw [selfBlk_term q k v qr kr hq hk B o h ho, headOut_eq, sum_fours, slice_at 1920 x0 _ h0 (by omega), slice_at 1408 x1 _ h1 (by omega),
    slice_at 896 x2 _ h2 (by omega), slice_at 384 x3 _ h3 (by omega),
    acc0_at q k v qr kr hq hk d _ (pos B j) (by show 128 * B.val + j.val = 128 + (x0 + j.val); omega),
    acc1_at q k v qr kr hq hk d _ (pos B j) (by show 128 * B.val + j.val = 640 + (x1 + j.val); omega),
    acc2_at q k v qr kr hq hk d _ (pos B j) (by show 128 * B.val + j.val = 1152 + (x2 + j.val); omega),
    acc3_at q k v qr kr hq hk d _ (pos B j) (by show 128 * B.val + j.val = 1664 + (x3 + j.val); omega)]
  simp only [add_assoc]

/-- One head of the kernel is block attention. -/
theorem head_at (hq : ∀ d l, q (ix2 d l) = qr d l) (hk : ∀ d l, k (ix2 d l) = kr d l) (d : Fin 64) (l : Fin 2048) :
    head q k v (ix2 d l) = headOut qr kr (vals v) d l := by
  rw [← pos_blk_off l, head, sixteen_at]
  generalize blk l = B
  generalize off l = j
  have h1 := fun B o x0 h h0 ho hx0 hB => piece1 (v := v) hq hk B o x0 h h0 ho hx0 hB d j
  have h2 := fun B o x0 x1 h h0 h1 ho hx0 hx1 hB => piece2 (v := v) hq hk B o x0 x1 h h0 h1 ho hx0 hx1 hB d j
  have h3 := fun B o x0 x1 x2 h h0 h1 h2 ho hx0 hx1 hx2 hB => piece3 (v := v) hq hk B o x0 x1 x2 h h0 h1 h2 ho hx0 hx1 hx2 hB d j
  have h4 := fun B o x0 x1 x2 x3 h h0 h1 h2 h3 ho hx0 hx1 hx2 hx3 => piece4 (v := v) hq hk B o x0 x1 x2 x3 h h0 h1 h2 h3 ho hx0 hx1 hx2 hx3 d j
  rcases Nat.eq_zero_or_pos B.val with hB | hB
  · obtain rfl : B = 0 := Fin.ext hB
    exact piece0 hq hk 0 0 _ rfl rfl d j
  · rcases Nat.lt_or_ge 4 B.val with hB4 | hB4
    · rcases Nat.lt_or_ge 8 B.val with hB8 | hB8
      · rcases Nat.lt_or_ge 12 B.val with hB12 | hB12
        · fin_cases B <;> first
            | exact absurd hB12 (by decide)
            | exact h4 _ _ _ _ _ _ _ _ _ _ _ (by rfl) (by rfl) (by rfl) (by rfl) (by rfl)
        · fin_cases B <;> first
            | exact absurd hB8 (by decide)
            | exact absurd hB12 (by decide)
            | exact h3 _ _ _ _ _ _ _ _ _ (by rfl) (by rfl) (by rfl) (by rfl) (by decide)
      · fin_cases B <;> first
          | exact absurd hB4 (by decide)
          | exact absurd hB8 (by decide)
          | exact h2 _ _ _ _ _ _ _ (by rfl) (by rfl) (by rfl) (by decide)
    · fin_cases B <;> first
        | exact absurd hB (by decide)
        | exact absurd hB4 (by decide)
        | exact h1 _ _ _ _ _ (by rfl) (by rfl) (by decide)

end Cert.KernelIdeal.Attn
end
-- ==== Proof.KOut.lean ====
module

public import proofs.«01_k».proof.Proof.KHead

@[expose] public section

set_option maxRecDepth 16384

/-!
The four heads of a group, and the output projection of the three groups, over the reals.
-/

noncomputable section

namespace Cert.KernelIdeal.Attn

open Idealize.ShloMosaic Idealize.SL.Sem Cert.KernelIdeal Cert.KernelIdeal.Gen Cert.Attn

/-- The row of a group where the feature `d` of its head `a` stands. -/
def rowOf (a : Fin 4) (d : Fin 64) : Fin 256 := ⟨64 * a.val + d.val, by omega⟩

variable {q k v : FVec Ideal S256x2048 .f32} {qr kr : Fin 64 → Fin 2048 → ℝ}

theorem part_at (a : Fin 4) (o : Nat) (ho : o = 64 * a.val) (y : FVec Ideal S256x2048 .f32) (h : S256x2048.Slices ![o, 0] S64x2048)
    (d : Fin 64) (l : Fin 2048) : extractStridedSlice S64x2048 ![o, 0] y h (ix2 d l) = y (ix2 (rowOf a d) l) := by
  refine congrArg y (funext fun b => Fin.ext ?_)
  fin_cases b
  · show o + d.val = 64 * a.val + d.val; omega
  · exact Nat.zero_add _

theorem headAt_real (a : Fin 4) (o : Nat) (ho : o = 64 * a.val) (h) (hq : ∀ d l, q (ix2 (rowOf a d) l) = qr d l)
    (hk : ∀ d l, k (ix2 (rowOf a d) l) = kr d l) (d : Fin 64) (l : Fin 2048) :
    headAt q k v o h (ix2 d l) = headOut qr kr (fun d l => v (ix2 (rowOf a d) l)) d l := by
  rw [headAt, head_at (qr := qr) (kr := kr) (fun d l => (part_at a o ho q h d l).trans (hq d l))
    (fun d l => (part_at a o ho k h d l).trans (hk d l))]
  exact congrArg (fun z => headOut qr kr z d l) (funext fun d => funext fun l => part_at a o ho v h d l)

/-- Four groups of rows on top of each other, read at a row of one of them. -/
theorem stack4_at (p0 p1 p2 p3 : FVec Ideal S64x2048 .f32) (h) (a : Fin 4) (d : Fin 64) (l : Fin 2048) :
    concatenate S256x2048 0 [⟨S64x2048, p0⟩, ⟨S64x2048, p1⟩, ⟨S64x2048, p2⟩, ⟨S64x2048, p3⟩] h (ix2 (rowOf a d) l)
      = (![p0, p1, p2, p3] : Fin 4 → FVec Ideal S64x2048 .f32) a (ix2 d l) := by
  refine concatenate_ofFn_apply (s₁ := S64x2048) (t := S256x2048) 0 (![p0, p1, p2, p3] : Fin 4 → FVec Ideal S64x2048 .f32) h rfl 64 rfl
    (ix2 (rowOf a d) l) a ?_ (ix2 d l) ?_ ?_
  · show (64 * a.val + d.val) / 64 = a.val; omega
  · show d.val = (64 * a.val + d.val) % 64; omega
  · intro b hb
    fin_cases b
    · exact absurd rfl hb
    · rfl

theorem heads_real (a : Fin 4) (hq : ∀ d l, q (ix2 (rowOf a d) l) = qr d l) (hk : ∀ d l, k (ix2 (rowOf a d) l) = kr d l)
    (d : Fin 64) (l : Fin 2048) :
    heads q k v (ix2 (rowOf a d) l) = headOut qr kr (fun d l => v (ix2 (rowOf a d) l)) d l := by
  rw [heads, stack4_at]
  fin_cases a
  · exact headAt_real 0 0 rfl _ hq hk d l
  · exact headAt_real 1 64 rfl _ hq hk d l
  · exact headAt_real 2 128 rfl _ hq hk d l
  · exact headAt_real 3 192 rfl _ hq hk d l

/-- Three groups on top of each other, read at a row of one of them. -/
theorem stack3_at (g0 g1 g2 : FVec Ideal S256x2048 .f32) (h) (t : Fin 3) (r : Fin 256) (f : Fin 768) (hf : f.val = 256 * t.val + r.val)
    (l : Fin 2048) :
    concatenate S768x2048 0 [⟨S256x2048, g0⟩, ⟨S256x2048, g1⟩, ⟨S256x2048, g2⟩] h (ix2 f l)
      = (![g0, g1, g2] : Fin 3 → FVec Ideal S256x2048 .f32) t (ix2 r l) := by
  refine concatenate_ofFn_apply (s₁ := S256x2048) (t := S768x2048) 0 (![g0, g1, g2] : Fin 3 → FVec Ideal S256x2048 .f32) h rfl 256 rfl
    (ix2 f l) t ?_ (ix2 r l) ?_ ?_
  · show f.val / 256 = t.val; omega
  · show r.val = f.val % 256; omega
  · intro b hb
    fin_cases b
    · exact absurd rfl hb
    · rfl

theorem outProj_at (g0 g1 g2 : FVec Ideal S256x2048 .f32) (wo : Vec Ideal S768x768 .f32) (bo : Vec Ideal S1x768 .f32)
    (l : Fin 2048) (e : Fin 768) :
    outProj g0 g1 g2 wo bo (ix2 l e)
      = (∑ f : Fin 768, concatenate S768x2048 0 [⟨S256x2048, g0⟩, ⟨S256x2048, g1⟩, ⟨S256x2048, g2⟩]
          concatenates_S256x2048_S256x2048_S256x2048_S768x2048_d0 (ix2 f l) * wo (ix2 e f)) + bo (ix2 0 e) := by
  unfold outProj
  generalize concatenate S768x2048 0 [⟨S256x2048, g0⟩, ⟨S256x2048, g1⟩, ⟨S256x2048, g2⟩]
    concatenates_S256x2048_S256x2048_S256x2048_S768x2048_d0 = y
  pointwise

end Cert.KernelIdeal.Attn
end
-- ==== Proof.RefHead.lean ====
module

public import proofs.«01_k».proof.Proof.Gen.ReferenceIdeal

@[expose] public section

set_option maxRecDepth 16384

/-!
The reference written by stages: the projections, the gate and its three greatest blocks, the scores, the softmax over
the query's own block and the softmax inside each block, and the output projection.
-/

noncomputable section

namespace Cert.ReferenceIdeal.Attn

open Idealize.ShloMosaic Idealize.SL.Sem Cert.ReferenceIdeal Cert.ReferenceIdeal.Gen

variable {F : FTy → Type} [FloatOps F]

/-- A linear layer, `x Wᵀ + b`. -/
def lin (x : FVec F S1x2048x768 .f32) (w : FVec F S768x768 .f32) (b : FVec F S768 .f32) : FVec F S1x2048x768 .f32 :=
  addf (Host.dotGeneral dot_S1x2048x768_S768x768_S1x2048x768_2_0_01_1_n_n none x
      (transpose S768x768 [1, 0] w transposes_S768x768_S768x768_1_0))
    (broadcastInDim S1x2048x768 ![0, 1, 2] bcast_S1x1x768_S1x2048x768_0_1_2 (broadcastInDim S1x1x768 ![2] bcast_S768_S1x1x768_2 b))

/-- The features split into heads, heads first. -/
def splitHeads (y : FVec F S1x2048x768 .f32) : FVec F S1x12x2048x64 .f32 :=
  transpose S1x12x2048x64 [0, 2, 1, 3] (shapeCast S1x2048x12x64 y shapeCasts_S1x2048x768_S1x2048x12x64)
    transposes_S1x2048x12x64_S1x12x2048x64_0_2_1_3

/-- Each query against the mean key of each block. -/
def rawGate (q k : FVec F S1x12x2048x64 .f32) : FVec F S1x12x2048x16 .f32 :=
  Host.dotGeneral dot_S1x12x2048x64_S1x12x16x64_S1x12x2048x16_3_3_2_2_01_01 none q
    (Host.divf (Host.reduceAdd (shapeCast S1x12x16x128x64 k shapeCasts_S1x12x2048x64_S1x12x16x128x64) (constant S_ .f32 0x00000000#32)
        reducesTo_S1x12x16x128x64_S1x12x16x64_d3 h_S_)
      (broadcastInDim S1x12x16x64 ![] bcast_S_S1x12x16x64 (constant S_ .f32 0x43000000#32)))

/-- Floor division of the positions by a divisor. -/
def floorDiv (x : IVec S2048 32) (d : IVec S_ 32) : IVec S2048 32 :=
  select (andi (cmpi .ne (signi x) (broadcastInDim S2048 ![] bcast_S_S2048 (signi d)))
      (cmpi .ne (Host.remsi x (broadcastInDim S2048 ![] bcast_S_S2048 d)) (broadcastInDim S2048 ![] bcast_S_S2048 (constantI S_ 32 0#32))))
    (subi (Host.divsi x (broadcastInDim S2048 ![] bcast_S_S2048 d)) (broadcastInDim S2048 ![] bcast_S_S2048 (constantI S_ 32 1#32)))
    (Host.divsi x (broadcastInDim S2048 ![] bcast_S_S2048 d))

/-- The block of each position. -/
def posBlk : IVec S2048 32 := floorDiv (iotaInDim S2048 32 0) (constantI S_ 32 128#32)

/-- The block of the query, along the rows. -/
def rowBlk : IVec S2048x16 32 :=
  broadcastInDim S2048x16 ![0, 1] bcast_S2048x1_S2048x16_0_1 (broadcastInDim S2048x1 ![0] bcast_S2048_S2048x1_0 posBlk)

/-- The number of the block, along the columns. -/
def colNo : IVec S2048x16 32 :=
  broadcastInDim S2048x16 ![0, 1] bcast_S1x16_S2048x16_0_1 (broadcastInDim S1x16 ![1] bcast_S16_S1x16_1 (iotaInDim S16 32 0))

/-- The gate, blocks after the query's own masked. -/
def gate (q k : FVec F S1x12x2048x64 .f32) : FVec F S1x12x2048x16 .f32 :=
  select (broadcastInDim S1x12x2048x16 ![0, 1, 2, 3] bcast_S1x1x2048x16_S1x12x2048x16_0_1_2_3
      (broadcastInDim S1x1x2048x16 ![2, 3] bcast_S2048x16_S1x1x2048x16_2_3 (cmpi .slt rowBlk colNo)))
    (broadcastInDim S1x12x2048x16 ![] bcast_S_S1x12x2048x16 (constant S_ .f32 0xFF800000#32)) (rawGate q k)

/-- The numbers of the three greatest blocks. -/
def top (g : FVec F S1x12x2048x16 .f32) : IVec S1x12x2048x3 32 :=
  (Host.topK S1x12x2048x3 3 (FloatOps.cmpfTotal .gt) g sliceFits_S1x12x2048x16_S1x12x2048x3).2

/-- The scaled scores. -/
def scores (q k : FVec F S1x12x2048x64 .f32) : FVec F S1x12x2048x2048 .f32 :=
  mulf (Host.dotGeneral dot_S1x12x2048x64_S1x12x2048x64_S1x12x2048x2048_3_3_2_2_01_01 none q k)
    (broadcastInDim S1x12x2048x2048 ![] bcast_S_S1x12x2048x2048 (constant S_ .f32 0x3E000000#32))

/-- The keys of the query's own block that are not after it. -/
def selfMask : IVec S2048x2048 1 :=
  andi
    (cmpi .eq (broadcastInDim S2048x2048 ![0, 1] bcast_S2048x1_S2048x2048_0_1 (broadcastInDim S2048x1 ![0] bcast_S2048_S2048x1_0 posBlk))
      (broadcastInDim S2048x2048 ![0, 1] bcast_S1x2048_S2048x2048_0_1 (broadcastInDim S1x2048 ![1] bcast_S2048_S1x2048_1 posBlk)))
    (cmpi .sle
      (broadcastInDim S2048x2048 ![0, 1] bcast_S1x2048_S2048x2048_0_1 (broadcastInDim S1x2048 ![1] bcast_S2048_S1x2048_1 (iotaInDim S2048 32 0)))
      (broadcastInDim S2048x2048 ![0, 1] bcast_S2048x1_S2048x2048_0_1 (broadcastInDim S2048x1 ![0] bcast_S2048_S2048x1_0 (iotaInDim S2048 32 0))))

/-- The scores under the mask. -/
def masked (a : FVec F S1x12x2048x2048 .f32) : FVec F S1x12x2048x2048 .f32 :=
  select (broadcastInDim S1x12x2048x2048 ![0, 1, 2, 3] bcast_S1x1x2048x2048_S1x12x2048x2048_0_1_2_3
      (broadcastInDim S1x1x2048x2048 ![2, 3] bcast_S2048x2048_S1x1x2048x2048_2_3 selfMask)) a
    (broadcastInDim S1x12x2048x2048 ![] bcast_S_S1x12x2048x2048 (constant S_ .f32 0xFF800000#32))

/-- The greatest entry of each row. -/
def rowMax (a : FVec F S1x12x2048x2048 .f32) : FVec F S1x12x2048 .f32 :=
  Host.reduce FloatOps.maximumf a (constant S_ .f32 0xFF800000#32) reducesTo_S1x12x2048x2048_S1x12x2048_d3 h_S_

/-- The same, at least the least value. -/
def rowShift (a : FVec F S1x12x2048x2048 .f32) : FVec F S1x12x2048 .f32 :=
  maximumf (broadcastInDim S1x12x2048 ![] bcast_S_S1x12x2048 (constant S_ .f32 0xFF800000#32)) (rowMax a)

/-- The exponentials of a row less its greatest entry. -/
def expRow (a : FVec F S1x12x2048x2048 .f32) : FVec F S1x12x2048x2048 .f32 :=
  Host.exp (subf a (broadcastInDim S1x12x2048x2048 ![0, 1, 2, 3] bcast_S1x12x2048x1_S1x12x2048x2048_0_1_2_3
    (broadcastInDim S1x12x2048x1 ![0, 1, 2] bcast_S1x12x2048_S1x12x2048x1_0_1_2
      (rowShift a))))

/-- The softmax of each row. -/
def softRow (a : FVec F S1x12x2048x2048 .f32) : FVec F S1x12x2048x2048 .f32 :=
  Host.divf (expRow a) (broadcastInDim S1x12x2048x2048 ![0, 1, 2, 3] bcast_S1x12x2048x1_S1x12x2048x2048_0_1_2_3
    (broadcastInDim S1x12x2048x1 ![0, 1, 2] bcast_S1x12x2048_S1x12x2048x1_0_1_2
      (Host.reduceAdd (expRow a) (constant S_ .f32 0x00000000#32) reducesTo_S1x12x2048x2048_S1x12x2048_d3 h_S_)))

/-- Attention to the query's own block. -/
def selfOut (q k v : FVec F S1x12x2048x64 .f32) : FVec F S1x12x2048x64 .f32 :=
  Host.dotGeneral dot_S1x12x2048x2048_S1x12x2048x64_S1x12x2048x64_3_2_2_3_01_01 none (softRow (masked (scores q k))) v

/-- The greatest entry of each block of a row. -/
def blkMax (a : FVec F S1x12x2048x16x128 .f32) : FVec F S1x12x2048x16 .f32 :=
  Host.reduce FloatOps.maximumf a (constant S_ .f32 0xFF800000#32) reducesTo_S1x12x2048x16x128_S1x12x2048x16_d4 h_S_

/-- The same, at least the least value. -/
def blkShift (a : FVec F S1x12x2048x16x128 .f32) : FVec F S1x12x2048x16 .f32 :=
  maximumf (broadcastInDim S1x12x2048x16 ![] bcast_S_S1x12x2048x16 (constant S_ .f32 0xFF800000#32)) (blkMax a)

/-- The exponentials of each block of a row less its greatest entry. -/
def expBlk (a : FVec F S1x12x2048x16x128 .f32) : FVec F S1x12x2048x16x128 .f32 :=
  Host.exp (subf a (broadcastInDim S1x12x2048x16x128 ![0, 1, 2, 3, 4] bcast_S1x12x2048x16x1_S1x12x2048x16x128_0_1_2_3_4
    (broadcastInDim S1x12x2048x16x1 ![0, 1, 2, 3] bcast_S1x12x2048x16_S1x12x2048x16x1_0_1_2_3
      (blkShift a))))

/-- The softmax inside each block. -/
def softBlk (a : FVec F S1x12x2048x16x128 .f32) : FVec F S1x12x2048x16x128 .f32 :=
  Host.divf (expBlk a) (broadcastInDim S1x12x2048x16x128 ![0, 1, 2, 3, 4] bcast_S1x12x2048x16x1_S1x12x2048x16x128_0_1_2_3_4
    (broadcastInDim S1x12x2048x16x1 ![0, 1, 2, 3] bcast_S1x12x2048x16_S1x12x2048x16x1_0_1_2_3
      (Host.reduceAdd (expBlk a) (constant S_ .f32 0x00000000#32) reducesTo_S1x12x2048x16x128_S1x12x2048x16_d4 h_S_)))

/-- Attention to each block by itself. -/
def blkOut (q k v : FVec F S1x12x2048x64 .f32) : FVec F S1x12x2048x16x64 .f32 :=
  transpose S1x12x2048x16x64 [0, 1, 4, 2, 3]
    (Host.dotGeneral dot_S1x12x16x128x64_S1x12x2048x16x128_S1x12x16x64x2048_3_4_4_2_012_013 none
      (shapeCast S1x12x16x128x64 v shapeCasts_S1x12x2048x64_S1x12x16x128x64)
      (softBlk (shapeCast S1x12x2048x16x128 (scores q k) shapeCasts_S1x12x2048x2048_S1x12x2048x16x128)))
    transposes_S1x12x16x64x2048_S1x12x2048x16x64_0_1_4_2_3

/-- One row of sixteen for each of the three numbers, with a one at the number. -/
def oneHot (t : IVec S1x12x2048x3 32) : FVec F S1x12x2048x3x16 .f32 :=
  uitofp .f32 (cmpi .eq
    (broadcastInDim S1x12x2048x3x16 ![0, 1, 2, 3, 4] bcast_S1x12x2048x3x1_S1x12x2048x3x16_0_1_2_3_4
      (broadcastInDim S1x12x2048x3x1 ![0, 1, 2, 3] bcast_S1x12x2048x3_S1x12x2048x3x1_0_1_2_3 t))
    (broadcastInDim S1x12x2048x3x16 ![0, 1, 2, 3, 4] bcast_S1x1x1x1x16_S1x12x2048x3x16_0_1_2_3_4 (iotaInDim S1x1x1x1x16 32 4)))

/-- The weight of each block: how often it was chosen, for a block strictly before the query's own. -/
def weight (q k : FVec F S1x12x2048x64 .f32) : FVec F S1x12x2048x16 .f32 :=
  mulf (Host.reduceAdd (oneHot (top (gate q k))) (constant S_ .f32 0x00000000#32) reducesTo_S1x12x2048x3x16_S1x12x2048x16_d3 h_S_)
    (broadcastInDim S1x12x2048x16 ![0, 1, 2, 3] bcast_S1x1x2048x16_S1x12x2048x16_0_1_2_3
      (broadcastInDim S1x1x2048x16 ![2, 3] bcast_S2048x16_S1x1x2048x16_2_3 (uitofp .f32 (cmpi .slt colNo rowBlk))))

/-- All heads' attention. -/
def attn (q k v : FVec F S1x12x2048x64 .f32) : FVec F S1x12x2048x64 .f32 :=
  addf (selfOut q k v) (Host.dotGeneral dot_S1x12x2048x16_S1x12x2048x16x64_S1x12x2048x64_3_3_n_4_012_012 none (weight q k) (blkOut q k v))

/-- The heads side by side again. -/
def joinHeads (y : FVec F S1x12x2048x64 .f32) : FVec F S1x2048x768 .f32 :=
  shapeCast S1x2048x768 (transpose S1x2048x12x64 [0, 2, 1, 3] y transposes_S1x12x2048x64_S1x2048x12x64_0_2_1_3)
    shapeCasts_S1x2048x12x64_S1x2048x768

/-- The whole reference. -/
def whole (x : FVec F S1x2048x768 .f32) (wq : FVec F S768x768 .f32) (bq : FVec F S768 .f32) (wk : FVec F S768x768 .f32) (bk : FVec F S768 .f32)
    (wv : FVec F S768x768 .f32) (bv : FVec F S768 .f32) (wo : FVec F S768x768 .f32) (bo : FVec F S768 .f32) : FVec F S1x2048x768 .f32 :=
  lin (joinHeads (attn (splitHeads (lin x wq bq)) (splitHeads (lin x wk bk)) (splitHeads (lin x wv bv)))) wo bo

end Cert.ReferenceIdeal.Attn
end
-- ==== Proof.RRead.lean ====
module

public import proofs.«01_k».proof.Proof.RefHead
public import proofs.«01_k».proof.Proof.Spec
public import proofs.«01_k».proof.Proof.Scalars
public import Idealize.ShloMosaic.Lib.MatmulPlain

@[expose] public section

set_option maxRecDepth 16384

/-!
The stages of the reference read at an index, over the extended reals.
-/

noncomputable section

namespace Cert.ReferenceIdeal.Attn

open Idealize.ShloMosaic Idealize.SL.Sem Cert.ReferenceIdeal Cert.ReferenceIdeal.Gen Cert.Attn

theorem lin_at (x : FVec Ideal S1x2048x768 .f32) (w : FVec Ideal S768x768 .f32) (b : FVec Ideal S768 .f32) (l : Fin 2048) (e : Fin 768) :
    lin x w b (ix3 0 l e) = (∑ f : Fin 768, x (ix3 0 l f) * w (ix2 e f)) + b (ix1 e) := by
  pointwise [lin]

/-- The feature `d` of the head `h`. -/
def feat (h : Fin 12) (d : Fin 64) : Fin 768 := ⟨64 * h.val + d.val, by omega⟩

theorem splitHeads_at (y : FVec Ideal S1x2048x768 .f32) (h : Fin 12) (l : Fin 2048) (d : Fin 64) :
    splitHeads y (ix4 0 h l d) = y (ix3 0 l (feat h d)) := by
  pointwise [splitHeads]
  simp only [Nat.mul_comm, feat]

theorem joinHeads_at (y : FVec Ideal S1x12x2048x64 .f32) (h : Fin 12) (l : Fin 2048) (d : Fin 64) :
    joinHeads y (ix3 0 l (feat h d)) = y (ix4 0 h l d) := by
  unfold feat
  pointwise [joinHeads]

theorem rawGate_at (q k : FVec Ideal S1x12x2048x64 .f32) (h : Fin 12) (l : Fin 2048) (n : Fin 16) :
    rawGate q k (ix4 0 h l n) = ∑ d : Fin 64, q (ix4 0 h l d) * Ideal.div (∑ i : Fin 128, k (ix4 0 h (pos n i) d)) ((128 : ℝ) : EReal) := by
  pointwise [rawGate]
  rw [lit_128]
  simp only [Nat.mul_comm, pos]

theorem scores_at (q k : FVec Ideal S1x12x2048x64 .f32) (h : Fin 12) (l j : Fin 2048) :
    scores q k (ix4 0 h l j) = (∑ d : Fin 64, q (ix4 0 h l d) * k (ix4 0 h j d)) * ((1 / 8 : ℝ) : EReal) := by
  pointwise [scores]
  rw [lit_eighth]

/-- Floor division by 128 of one word, as the reference computes it. -/
def floorWord (x : BitVec 32) : BitVec 32 :=
  Scalar.select (IntOp.andi
      (IntOp.cmpi .ne (if x = 0 then (0 : BitVec 32) else if x.msb = true then -1 else 1)
        (if 128#32 = 0 then (0 : BitVec 32) else if (128#32).msb = true then -1 else 1))
      (IntOp.cmpi .ne (IntOp.remsi .host x 128#32) 0#32))
    (IntOp.subi (IntOp.divsi .host x 128#32) 1#32) (IntOp.divsi .host x 128#32)

theorem floorWord_ofNat : ∀ l : Fin 2048, floorWord (BitVec.ofNat 32 l.val) = BitVec.ofNat 32 (l.val / 128) := by
  decide +kernel

theorem posBlk_at (l : Fin 2048) : posBlk (ix1 l) = BitVec.ofNat 32 (l.val / 128) := by
  refine Eq.trans ?_ (floorWord_ofNat l)
  pointwise [posBlk, floorDiv]
  rfl

theorem rowBlk_at (l : Fin 2048) (n : Fin 16) : rowBlk (ix2 l n) = BitVec.ofNat 32 (l.val / 128) := by
  refine Eq.trans ?_ (posBlk_at l)
  pointwise [rowBlk]

theorem colNo_at (l : Fin 2048) (n : Fin 16) : colNo (ix2 l n) = BitVec.ofNat 32 n.val := by
  pointwise [colNo]

theorem gate_at (q k : FVec Ideal S1x12x2048x64 .f32) (h : Fin 12) (l : Fin 2048) (n : Fin 16) :
    gate q k (ix4 0 h l n) = if blk l < n then ⊥ else rawGate q k (ix4 0 h l n) := by
  pointwise [gate]
  rw [rowBlk_at, colNo_at, WordCmp.cmpi_slt_ofNat (by omega) (by omega), select_bit, lit_negInf]
  rfl

theorem selfMask_at (l j : Fin 2048) : selfMask (ix2 l j) = BitVec.ofBool (decide (blk j = blk l ∧ j ≤ l)) := by
  pointwise [selfMask]
  rw [posBlk_at, posBlk_at, WordCmp.cmpi_eq_ofNat (by omega) (by omega), WordCmp.cmpi_sle_ofNat (by omega) (by omega)]
  by_cases h1 : l.val / 128 = j.val / 128 <;> by_cases h2 : j ≤ l <;> simp [h1, h2, blk, Fin.ext_iff, IntOp.andi, Fin.le_def.symm, eq_comm]

theorem masked_at (a : FVec Ideal S1x12x2048x2048 .f32) (h : Fin 12) (l j : Fin 2048) :
    masked a (ix4 0 h l j) = if blk j = blk l ∧ j ≤ l then a (ix4 0 h l j) else ⊥ := by
  pointwise [masked]
  rw [selfMask_at, select_bit, lit_negInf]

theorem max_last4 {n0 n1 n2 n3 : Nat} {u : Shape} (x : FVec Ideal ⟨4, ![n0, n1, n2, n3]⟩ .f32) (init : FVec Ideal u .f32)
    (h : (⟨4, ![n0, n1, n2, n3]⟩ : Shape).ReducesTo [3] ⟨3, ![n0, n1, n2]⟩) (hu : 0 < u.numel) (i : Fin n0) (j : Fin n1) (k : Fin n2) :
    Host.reduce (FloatOps.maximumf : Ideal .f32 → Ideal .f32 → Ideal .f32) x init h hu (ix3 i j k)
      = Finset.fold max (init (Shape.Idx.first hu)) (fun m => x (ix4 i j k m)) Finset.univ :=
  (Host.reduce_eq_fold (FloatOps.maximumf : Ideal .f32 → Ideal .f32 → Ideal .f32) x init h hu (ix3 i j k)).trans
    (Shape.ReducesTo.fold_fiber_r4_a3 h (ix3 i j k) (max : EReal → EReal → EReal) _ x)

theorem max_last5 {n0 n1 n2 n3 n4 : Nat} {u : Shape} (x : FVec Ideal ⟨5, ![n0, n1, n2, n3, n4]⟩ .f32) (init : FVec Ideal u .f32)
    (h : (⟨5, ![n0, n1, n2, n3, n4]⟩ : Shape).ReducesTo [4] ⟨4, ![n0, n1, n2, n3]⟩) (hu : 0 < u.numel)
    (i : Fin n0) (j : Fin n1) (k : Fin n2) (l : Fin n3) :
    Host.reduce (FloatOps.maximumf : Ideal .f32 → Ideal .f32 → Ideal .f32) x init h hu (ix4 i j k l)
      = Finset.fold max (init (Shape.Idx.first hu)) (fun m => x (ix5 i j k l m)) Finset.univ :=
  (Host.reduce_eq_fold (FloatOps.maximumf : Ideal .f32 → Ideal .f32 → Ideal .f32) x init h hu (ix4 i j k l)).trans
    (Shape.ReducesTo.fold_fiber_r5_a4 h (ix4 i j k l) (max : EReal → EReal → EReal) _ x)

theorem rowMax_at (a : FVec Ideal S1x12x2048x2048 .f32) (h : Fin 12) (l : Fin 2048) :
    rowMax a (ix3 0 h l) = Finset.fold max ⊥ (fun j => a (ix4 0 h l j)) Finset.univ := by
  have e : (constant S_ .f32 0xFF800000#32 : FVec Ideal S_ .f32) (Shape.Idx.first h_S_) = (⊥ : EReal) := lit_negInf
  rw [← e]
  exact max_last4 a _ reducesTo_S1x12x2048x2048_S1x12x2048_d3 h_S_ 0 h l

theorem blkMax_at (a : FVec Ideal S1x12x2048x16x128 .f32) (h : Fin 12) (l : Fin 2048) (n : Fin 16) :
    blkMax a (ix4 0 h l n) = Finset.fold max ⊥ (fun i => a (ix5 0 h l n i)) Finset.univ := by
  have e : (constant S_ .f32 0xFF800000#32 : FVec Ideal S_ .f32) (Shape.Idx.first h_S_) = (⊥ : EReal) := lit_negInf
  rw [← e]
  exact max_last5 a _ reducesTo_S1x12x2048x16x128_S1x12x2048x16_d4 h_S_ 0 h l n

theorem rowFloor_eq (z : FVec Ideal S1x12x2048 .f32) :
    maximumf (broadcastInDim S1x12x2048 ![] bcast_S_S1x12x2048 (constant S_ .f32 0xFF800000#32)) z = z := by
  funext i
  show max (Ideal.ofBits .f32 0xFF800000#32) (z i) = z i
  rw [lit_negInf, max_eq_right bot_le]

theorem rowShift_eq (a : FVec Ideal S1x12x2048x2048 .f32) : rowShift a = rowMax a := rowFloor_eq (rowMax a)

theorem rowSpread_at (m : FVec Ideal S1x12x2048 .f32) (h : Fin 12) (l j : Fin 2048) :
    broadcastInDim S1x12x2048x2048 ![0, 1, 2, 3] bcast_S1x12x2048x1_S1x12x2048x2048_0_1_2_3
      (broadcastInDim S1x12x2048x1 ![0, 1, 2] bcast_S1x12x2048_S1x12x2048x1_0_1_2 m) (ix4 0 h l j) = m (ix3 0 h l) := by
  pointwise

theorem rowExp_at (a : FVec Ideal S1x12x2048x2048 .f32) (m : FVec Ideal S1x12x2048 .f32) (h : Fin 12) (l j : Fin 2048) :
    Host.exp (subf a (broadcastInDim S1x12x2048x2048 ![0, 1, 2, 3] bcast_S1x12x2048x1_S1x12x2048x2048_0_1_2_3
      (broadcastInDim S1x12x2048x1 ![0, 1, 2] bcast_S1x12x2048_S1x12x2048x1_0_1_2 m))) (ix4 0 h l j)
      = Ideal.exp (a (ix4 0 h l j) - m (ix3 0 h l)) :=
  congrArg (fun z => Ideal.exp (a (ix4 0 h l j) - z)) (rowSpread_at m h l j)

theorem expRow_at (a : FVec Ideal S1x12x2048x2048 .f32) (h : Fin 12) (l j : Fin 2048) :
    expRow a (ix4 0 h l j) = Ideal.exp (a (ix4 0 h l j) - rowMax a (ix3 0 h l)) :=
  (rowExp_at a (rowShift a) h l j).trans (by rw [rowShift_eq])

theorem softRow_at (a : FVec Ideal S1x12x2048x2048 .f32) (h : Fin 12) (l j : Fin 2048) :
    softRow a (ix4 0 h l j) = Ideal.div (expRow a (ix4 0 h l j)) (∑ j' : Fin 2048, expRow a (ix4 0 h l j')) := by
  pointwise [softRow]

theorem selfOut_at (q k v : FVec Ideal S1x12x2048x64 .f32) (h : Fin 12) (l : Fin 2048) (d : Fin 64) :
    selfOut q k v (ix4 0 h l d) = ∑ j : Fin 2048, softRow (masked (scores q k)) (ix4 0 h l j) * v (ix4 0 h j d) := by
  pointwise [selfOut]

theorem blkFloor_eq (z : FVec Ideal S1x12x2048x16 .f32) :
    maximumf (broadcastInDim S1x12x2048x16 ![] bcast_S_S1x12x2048x16 (constant S_ .f32 0xFF800000#32)) z = z := by
  funext i
  show max (Ideal.ofBits .f32 0xFF800000#32) (z i) = z i
  rw [lit_negInf, max_eq_right bot_le]

theorem blkShift_eq (a : FVec Ideal S1x12x2048x16x128 .f32) : blkShift a = blkMax a := blkFloor_eq (blkMax a)

theorem blkSpread_at (m : FVec Ideal S1x12x2048x16 .f32) (h : Fin 12) (l : Fin 2048) (n : Fin 16) (i : Fin 128) :
    broadcastInDim S1x12x2048x16x128 ![0, 1, 2, 3, 4] bcast_S1x12x2048x16x1_S1x12x2048x16x128_0_1_2_3_4
      (broadcastInDim S1x12x2048x16x1 ![0, 1, 2, 3] bcast_S1x12x2048x16_S1x12x2048x16x1_0_1_2_3 m) (ix5 0 h l n i) = m (ix4 0 h l n) := by
  pointwise

theorem blkExp_at (a : FVec Ideal S1x12x2048x16x128 .f32) (m : FVec Ideal S1x12x2048x16 .f32) (h : Fin 12) (l : Fin 2048) (n : Fin 16)
    (i : Fin 128) :
    Host.exp (subf a (broadcastInDim S1x12x2048x16x128 ![0, 1, 2, 3, 4] bcast_S1x12x2048x16x1_S1x12x2048x16x128_0_1_2_3_4
      (broadcastInDim S1x12x2048x16x1 ![0, 1, 2, 3] bcast_S1x12x2048x16_S1x12x2048x16x1_0_1_2_3 m))) (ix5 0 h l n i)
      = Ideal.exp (a (ix5 0 h l n i) - m (ix4 0 h l n)) :=
  congrArg (fun z => Ideal.exp (a (ix5 0 h l n i) - z)) (blkSpread_at m h l n i)

theorem expBlk_at (a : FVec Ideal S1x12x2048x16x128 .f32) (h : Fin 12) (l : Fin 2048) (n : Fin 16) (i : Fin 128) :
    expBlk a (ix5 0 h l n i) = Ideal.exp (a (ix5 0 h l n i) - blkMax a (ix4 0 h l n)) :=
  (blkExp_at a (blkShift a) h l n i).trans (by rw [blkShift_eq])

theorem softBlk_at (a : FVec Ideal S1x12x2048x16x128 .f32) (h : Fin 12) (l : Fin 2048) (n : Fin 16) (i : Fin 128) :
    softBlk a (ix5 0 h l n i) = Ideal.div (expBlk a (ix5 0 h l n i)) (∑ i' : Fin 128, expBlk a (ix5 0 h l n i')) := by
  pointwise [softBlk]

/-- The scores with their keys split into blocks. -/
def blkScores (q k : FVec Ideal S1x12x2048x64 .f32) : FVec Ideal S1x12x2048x16x128 .f32 :=
  shapeCast S1x12x2048x16x128 (scores q k) shapeCasts_S1x12x2048x2048_S1x12x2048x16x128

theorem blkScores_at (q k : FVec Ideal S1x12x2048x64 .f32) (h : Fin 12) (l : Fin 2048) (n : Fin 16) (i : Fin 128) :
    blkScores q k (ix5 0 h l n i) = scores q k (ix4 0 h l (pos n i)) := by
  pointwise [blkScores]
  simp only [Nat.mul_comm, pos]

theorem blkOut_at (q k v : FVec Ideal S1x12x2048x64 .f32) (h : Fin 12) (l : Fin 2048) (n : Fin 16) (d : Fin 64) :
    blkOut q k v (ix5 0 h l n d) = ∑ i : Fin 128, v (ix4 0 h (pos n i) d) * softBlk (blkScores q k) (ix5 0 h l n i) := by
  unfold blkScores
  pointwise [blkOut]
  simp only [Nat.mul_comm, pos]

theorem oneHot_at (t : IVec S1x12x2048x3 32) (h : Fin 12) (l : Fin 2048) (r : Fin 3) (n a : Fin 16) (ha : t (ix4 0 h l r) = BitVec.ofNat 32 a.val) :
    oneHot (F := Ideal) t (ix5 0 h l r n) = if a = n then 1 else 0 := by
  pointwise [oneHot]
  rw [ha, WordCmp.cmpi_eq_ofNat (by omega) (by omega), bit_uitofp]
  exact if_congr Fin.ext_iff.symm rfl rfl

theorem weight_at (q k : FVec Ideal S1x12x2048x64 .f32) (h : Fin 12) (l : Fin 2048) (n : Fin 16) :
    weight q k (ix4 0 h l n) = (∑ r : Fin 3, oneHot (F := Ideal) (top (gate q k)) (ix5 0 h l r n)) * if n < blk l then 1 else 0 := by
  pointwise [weight]
  rw [rowBlk_at, colNo_at, WordCmp.cmpi_slt_ofNat (by omega) (by omega), bit_uitofp]
  rfl

theorem attn_at (q k v : FVec Ideal S1x12x2048x64 .f32) (h : Fin 12) (l : Fin 2048) (d : Fin 64) :
    attn q k v (ix4 0 h l d) = selfOut q k v (ix4 0 h l d) + ∑ n : Fin 16, weight q k (ix4 0 h l n) * blkOut q k v (ix5 0 h l n d) := by
  pointwise [attn]

end Cert.ReferenceIdeal.Attn
end
-- ==== Proof.RHead.lean ====
module

public import proofs.«01_k».proof.Proof.RRead

@[expose] public section

set_option maxRecDepth 16384

/-!
One head of the reference, for real queries and keys, is block attention.
-/

noncomputable section

namespace Cert.Attn

open Idealize.ShloMosaic

/-- The greatest of a nonempty masked family of reals is a real. -/
theorem fold_max_real {ι : Type*} [Fintype ι] (p : ι → Prop) [DecidablePred p] (s : ι → ℝ) (hp : ∃ i, p i) :
    ∃ m : ℝ, Finset.fold max ⊥ (fun i => if p i then ((s i : ℝ) : EReal) else ⊥) Finset.univ = (m : EReal) := by
  obtain ⟨i, hi⟩ := hp
  have lo : ((s i : ℝ) : EReal) ≤ Finset.fold max ⊥ (fun i => if p i then ((s i : ℝ) : EReal) else ⊥) Finset.univ := by
    rw [Finset.le_fold_max]
    exact .inr ⟨i, Finset.mem_univ _, by rw [if_pos hi]⟩
  have hi' : Finset.fold max ⊥ (fun i => if p i then ((s i : ℝ) : EReal) else ⊥) Finset.univ < (⊤ : EReal) := by
    rw [Finset.fold_max_lt]
    refine ⟨bot_lt_top, fun x _ => ?_⟩
    split
    · exact EReal.coe_lt_top _
    · exact bot_lt_top
  exact ⟨_, (EReal.coe_toReal hi'.ne (fun h => by rw [h] at lo; exact absurd (le_bot_iff.mp lo) (EReal.coe_ne_bot _))).symm⟩

/-- A masked softmax does not see the shift by the greatest entry. -/
theorem soft_eq {ι : Type*} [Fintype ι] (p : ι → Prop) [DecidablePred p] (s : ι → ℝ) (hp : ∃ i, p i) (a : ι → EReal)
    (ha : ∀ i, a i = if p i then ((s i : ℝ) : EReal) else ⊥) (i : ι) :
    Ideal.div (Ideal.exp (a i - Finset.fold max ⊥ a Finset.univ)) (∑ j, Ideal.exp (a j - Finset.fold max ⊥ a Finset.univ))
      = (((if p i then Real.exp (s i) else 0) / ∑ j, (if p j then Real.exp (s j) else 0) : ℝ) : EReal) := by
  obtain rfl : a = fun i => if p i then ((s i : ℝ) : EReal) else ⊥ := funext ha
  obtain ⟨m, hm⟩ := fold_max_real p s hp
  rw [hm]
  have e : ∀ j, Ideal.exp ((if p j then ((s j : ℝ) : EReal) else ⊥) - (m : EReal))
      = (((if p j then Real.exp (s j) else 0) * Real.exp (-m) : ℝ) : EReal) := by
    intro j
    split
    · rw [← EReal.coe_sub, Ideal.exp_coe, ← Real.exp_add, sub_eq_add_neg]
    · rw [EReal.bot_sub, zero_mul, EReal.coe_zero]; rfl
  simp only [e]
  obtain ⟨k, hk⟩ := hp
  have hs : 0 < ∑ j, (if p j then Real.exp (s j) else 0) := by
    refine Finset.sum_pos' (fun j _ => ?_) ⟨k, Finset.mem_univ _, ?_⟩
    · split
      · exact (Real.exp_pos _).le
      · exact le_rfl
    · rw [if_pos hk]; exact Real.exp_pos _
  rw [coe_sum, ← Finset.sum_mul, div_real _ _ (mul_pos hs (Real.exp_pos _)).ne', mul_div_mul_right _ _ (Real.exp_pos _).ne']

/-- Three tests for the ranks zero, one and two add up to the test for a rank below three. -/
theorem sum_three_ranks (n : Nat) : (∑ r : Fin 3, if n = r.val then (1 : EReal) else 0) = if n < 3 then 1 else 0 := by
  rw [Fin.sum_univ_three]
  rcases n with _ | _ | _ | n <;> simp

end Cert.Attn

namespace Cert.ReferenceIdeal.Attn

open Idealize.ShloMosaic Idealize.SL.Sem Cert.ReferenceIdeal Cert.ReferenceIdeal.Gen Cert.Attn

theorem along_at (h : Fin 12) (l : Fin 2048) (n k : Fin 16) :
    (ix4 0 h l n : S1x12x2048x16.Idx).along 3 k = ix4 0 h l k := by
  funext a; fin_cases a <;> rfl

theorem sort_at (cmp : Ideal .f32 × BitVec 32 → Ideal .f32 × BitVec 32 → BitVec 1) (g : FVec Ideal S1x12x2048x16 .f32) (y : IVec S1x12x2048x16 32)
    (h : Fin 12) (l : Fin 2048) (n : Fin 16) :
    (Host.sort2 S1x12x2048x16 3 cmp g y).2 (ix4 0 h l n)
      = y (ix4 0 h l (sortedFrom (fun k k' => cmp (g (ix4 0 h l k), y (ix4 0 h l k)) (g (ix4 0 h l k'), y (ix4 0 h l k')) == 1#1) n)) := by
  have e : (Host.sort2 S1x12x2048x16 3 cmp g y).2 (ix4 0 h l n)
      = y ((ix4 0 h l n : S1x12x2048x16.Idx).along 3 (sortedFrom (fun k k' =>
          cmp (g ((ix4 0 h l n : S1x12x2048x16.Idx).along 3 k), y ((ix4 0 h l n : S1x12x2048x16.Idx).along 3 k))
            (g ((ix4 0 h l n : S1x12x2048x16.Idx).along 3 k'), y ((ix4 0 h l n : S1x12x2048x16.Idx).along 3 k')) == 1#1) n)) := by
    unfold Host.sort2
    rw [dif_pos (by decide)]
    rfl
  rw [e]
  exact (congrArg y (along_at h l n _)).trans
    (congrArg (fun b => y (ix4 0 h l (sortedFrom b n))) (funext fun k => funext fun k' => by rw [along_at h l n k, along_at h l n k']))

theorem gt_eq (x y : EReal) : (Ideal.cmpTotal .gt x y == 1#1) = decide (y < x) := by
  show (BitVec.ofBool (decide (y < x)) == 1#1) = decide (y < x)
  by_cases h : y < x <;> simp [h]

theorem top_at (g : FVec Ideal S1x12x2048x16 .f32) (h : Fin 12) (l : Fin 2048) (r : Fin 3) :
    top g (ix4 0 h l r) = BitVec.ofNat 32 (sortedFrom (fun x y => decide (g (ix4 0 h l y) < g (ix4 0 h l x))) ⟨r.val, by omega⟩).val := by
  have e : top g (ix4 0 h l r) = (Host.sort2 S1x12x2048x16 3 (fun l r => Ideal.cmpTotal .gt l.1 r.1) g (iotaInDim S1x12x2048x16 32 3)).2
      (ix4 0 h l ⟨r.val, by omega⟩) := by
    refine congrArg (Host.sort2 S1x12x2048x16 3 (fun l r => Ideal.cmpTotal .gt l.1 r.1) g (iotaInDim S1x12x2048x16 32 3)).2 ?_
    funext a
    refine Fin.ext ?_
    fin_cases a <;> simp <;> rfl
  rw [e, sort_at]
  simp only [gt_eq]
  rfl

variable {q k : FVec Ideal S1x12x2048x64 .f32} {qr kr : Fin 64 → Fin 2048 → ℝ} {h : Fin 12}

theorem scores_real (hq : ∀ d l, q (ix4 0 h l d) = qr d l) (hk : ∀ d l, k (ix4 0 h l d) = kr d l) (l j : Fin 2048) :
    scores q k (ix4 0 h l j) = ((score qr kr j l : ℝ) : EReal) := by
  rw [scores_at, score, EReal.coe_mul, ← coe_sum]
  congr 1
  refine Finset.sum_congr rfl fun d _ => ?_
  rw [hq, hk, ← EReal.coe_mul, mul_comm]

theorem gate_real (hq : ∀ d l, q (ix4 0 h l d) = qr d l) (hk : ∀ d l, k (ix4 0 h l d) = kr d l) (l : Fin 2048) (n : Fin 16) :
    gate q k (ix4 0 h l n) = gateE qr kr l n := by
  rw [gate_at, gateE, rawGate_at, gateR, ← coe_sum]
  refine if_congr Iff.rfl rfl (Finset.sum_congr rfl fun d _ => ?_)
  rw [hq, EReal.coe_mul, ← div_real _ _ (by norm_num), ← coe_sum, mul_comm]
  congr 2
  exact Finset.sum_congr rfl fun i _ => hk _ _

theorem weight_real (hq : ∀ d l, q (ix4 0 h l d) = qr d l) (hk : ∀ d l, k (ix4 0 h l d) = kr d l) (l : Fin 2048) (n : Fin 16) :
    weight q k (ix4 0 h l n) = ((wt qr kr n l : ℝ) : EReal) := by
  have e : ∀ r : Fin 3, oneHot (F := Ideal) (top (gate q k)) (ix5 0 h l r n) = if rank (gateE qr kr l) n = r.val then 1 else 0 := by
    intro r
    rw [oneHot_at _ h l r n _ (top_at (gate q k) h l r)]
    refine if_congr ?_ rfl rfl
    simp only [gate_real hq hk]
    exact sortedFrom_eq_iff (gateE qr kr l) ⟨r.val, by omega⟩ n
  rw [weight_at, Finset.sum_congr rfl fun r _ => e r, sum_three_ranks, wt]
  by_cases h1 : n < blk l <;> by_cases h2 : rank (gateE qr kr l) n < 3 <;> simp [h1, h2]

theorem selfOut_real (hq : ∀ d l, q (ix4 0 h l d) = qr d l) (hk : ∀ d l, k (ix4 0 h l d) = kr d l) (v : FVec Ideal S1x12x2048x64 .f32)
    (l : Fin 2048) (d : Fin 64) : selfOut q k v (ix4 0 h l d)
      = ∑ i, ((own qr kr l i / ∑ i', own qr kr l i' : ℝ) : EReal) * v (ix4 0 h (pos (blk l) i) d) := by
  have hm : ∀ j, masked (scores q k) (ix4 0 h l j) = if blk j = blk l ∧ j ≤ l then ((score qr kr j l : ℝ) : EReal) else ⊥ := by
    intro j; rw [masked_at, scores_real hq hk]
  have hs : ∀ j, softRow (masked (scores q k)) (ix4 0 h l j) = _ := fun j =>
    (show _ = Ideal.div (Ideal.exp (masked (scores q k) (ix4 0 h l j) - Finset.fold max ⊥ (fun j => masked (scores q k) (ix4 0 h l j)) Finset.univ))
        (∑ j', Ideal.exp (masked (scores q k) (ix4 0 h l j') - Finset.fold max ⊥ (fun j => masked (scores q k) (ix4 0 h l j)) Finset.univ)) by
      rw [softRow_at]; simp only [expRow_at, rowMax_at]).trans
    (soft_eq (fun j => blk j = blk l ∧ j ≤ l) (fun j => score qr kr j l) ⟨l, rfl, le_rfl⟩ (fun j => masked (scores q k) (ix4 0 h l j)) hm j)
  have hw : ∀ (n : Fin 16) (i : Fin 128), (if blk (pos n i) = blk l ∧ pos n i ≤ l then Real.exp (score qr kr (pos n i) l) else 0)
      = if n = blk l then own qr kr l i else 0 := by
    intro n i
    rw [blk_pos]
    by_cases hn : n = blk l
    · subst hn
      have : pos (blk l) i ≤ l ↔ i ≤ off l := by
        simp only [Fin.le_def, pos, blk, off]; omega
      simp only [true_and, if_true, this, own, es]
    · simp only [hn, false_and, if_false]
  rw [selfOut_at]
  simp only [hs]
  rw [sum_pos_eq, sum_pos_eq (fun j => if blk j = blk l ∧ j ≤ l then Real.exp (score qr kr j l) else 0)]
  simp only [hw]
  rw [Finset.sum_eq_single (blk l) (fun n _ hn => by simp [hn]) (fun hn => absurd (Finset.mem_univ _) hn),
    Finset.sum_eq_single (blk l) (fun n _ hn => by simp [hn]) (fun hn => absurd (Finset.mem_univ _) hn)]
  simp only [if_true]

theorem softBlk_real (hq : ∀ d l, q (ix4 0 h l d) = qr d l) (hk : ∀ d l, k (ix4 0 h l d) = kr d l) (l : Fin 2048) (n : Fin 16) (i : Fin 128) :
    softBlk (blkScores q k) (ix5 0 h l n i) = ((es qr kr (pos n i) l / den qr kr n l : ℝ) : EReal) := by
  have ha : ∀ i, blkScores q k (ix5 0 h l n i) = if True then ((score qr kr (pos n i) l : ℝ) : EReal) else ⊥ := by
    intro i; rw [blkScores_at, scores_real hq hk, if_pos trivial]
  have key := soft_eq (fun _ : Fin 128 => True) (fun i => score qr kr (pos n i) l) ⟨0, trivial⟩ (fun i => blkScores q k (ix5 0 h l n i)) ha i
  simp only [if_true] at key
  rw [softBlk_at]
  simp only [expBlk_at, blkMax_at]
  exact key

theorem blkPart_real (hq : ∀ d l, q (ix4 0 h l d) = qr d l) (hk : ∀ d l, k (ix4 0 h l d) = kr d l) (v : FVec Ideal S1x12x2048x64 .f32)
    (l : Fin 2048) (n : Fin 16) (d : Fin 64) : weight q k (ix4 0 h l n) * blkOut q k v (ix5 0 h l n d)
      = ∑ i, ((wt qr kr n l * (es qr kr (pos n i) l / den qr kr n l) : ℝ) : EReal) * v (ix4 0 h (pos n i) d) := by
  rw [weight_real hq hk, blkOut_at, mul_comm, sum_mul_real _ _ _ (wt_nonneg qr kr n l)]
  refine Finset.sum_congr rfl fun i _ => ?_
  rw [softBlk_real hq hk, mul_assoc, ← EReal.coe_mul, mul_comm, mul_comm (wt qr kr n l)]

/-- One head of the reference is block attention. -/
theorem attn_real (hq : ∀ d l, q (ix4 0 h l d) = qr d l) (hk : ∀ d l, k (ix4 0 h l d) = kr d l) (v : FVec Ideal S1x12x2048x64 .f32)
    (l : Fin 2048) (d : Fin 64) : attn q k v (ix4 0 h l d) = headOut qr kr (fun d l => v (ix4 0 h l d)) d l := by
  rw [attn_at, selfOut_real hq hk, headOut]
  simp only [blkPart_real hq hk]

end Cert.ReferenceIdeal.Attn
end
-- ==== Proof.Same.lean ====
module

public import proofs.«01_k».proof.Proof.KBlocks
public import proofs.«01_k».proof.Proof.KOut
public import proofs.«01_k».proof.Proof.RHead

@[expose] public section

set_option maxRecDepth 16384

/-!
The kernel's result and the reference's are the same, entry by entry.
-/

noncomputable section

namespace Cert.Attn

open Idealize.ShloMosaic Idealize.SL.Sem
open Cert.ReferenceIdeal.Attn (feat)

/-- One feature of one head of a linear layer. -/
def feature (x : FVec Ideal ⟨3, ![1, 2048, 768]⟩ .f32) (w : FVec Ideal ⟨2, ![768, 768]⟩ .f32) (b : FVec Ideal ⟨1, ![768]⟩ .f32)
    (h : Fin 12) (d : Fin 64) (l : Fin 2048) : EReal :=
  (∑ f : Fin 768, x (ix3 0 l f) * w (ix2 (feat h d) f)) + b (ix1 (feat h d))

variable (x : FVec Ideal ⟨3, ![1, 2048, 768]⟩ .f32) (w : FVec Ideal ⟨2, ![768, 768]⟩ .f32) (b : FVec Ideal ⟨1, ![768]⟩ .f32)

theorem feature_real (hx : ∀ i, ∃ r : ℝ, x i = (r : EReal)) (hw : ∀ i, ∃ r : ℝ, w i = (r : EReal)) (hb : ∀ i, ∃ r : ℝ, b i = (r : EReal))
    (h : Fin 12) : ∃ y : Fin 64 → Fin 2048 → ℝ, ∀ d l, feature x w b h d l = y d l := by
  choose xr hx using hx
  choose wr hw using hw
  choose br hb using hb
  refine ⟨fun d l => (∑ f : Fin 768, xr (ix3 0 l f) * wr (ix2 (feat h d) f)) + br (ix1 (feat h d)), fun d l => ?_⟩
  rw [feature, hb, EReal.coe_add, ← coe_sum]
  simp only [hx, hw, EReal.coe_mul]

theorem split_lin (h : Fin 12) (d : Fin 64) (l : Fin 2048) :
    Cert.ReferenceIdeal.Attn.splitHeads (Cert.ReferenceIdeal.Attn.lin x w b) (ix4 0 h l d) = feature x w b h d l := by
  rw [Cert.ReferenceIdeal.Attn.splitHeads_at, Cert.ReferenceIdeal.Attn.lin_at, feature]

end Cert.Attn

namespace Cert.KernelIdeal.Attn

open Idealize.ShloMosaic Idealize.ShloMosaic.TcCoe Idealize.SL Idealize.SL.Sem
open Cert.KernelIdeal Cert.KernelIdeal.Gen Cert.Attn
open Cert.ReferenceIdeal.Attn (feat)

variable (m : (ℓ : Loc nD τ sig) → Buf (Elt Ideal) ℓ) (c : Dev nD)

theorem row_feat (t : Fin cfg0.N) (h : Fin 12) (a : Fin 4) (d : Fin 64) (e : h.val = 4 * t.val + a.val) :
    256 * t.val + (rowOf a d).val = (feat h d).val := by
  show 256 * t.val + (64 * a.val + d.val) = 64 * h.val + d.val
  omega

theorem proj_q (t : Fin cfg0.N) (h : Fin 12) (a : Fin 4) (e : h.val = 4 * t.val + a.val) (d : Fin 64) (l : Fin 2048) :
    proj (iblk m c 0 t) (iblk m c 1 t) (iblk m c 2 t) (ix2 (rowOf a d) l)
      = feature (m ((c : Thread nD τ).loc main_arg0)) (m ((c : Thread nD τ).loc main_arg1)) (m ((c : Thread nD τ).loc main_arg2)) h d l := by
  have hr := row_feat t h a d e
  have hlt : 256 * t.val + (rowOf a d).val < 768 := hr ▸ (feat h d).isLt
  have hf : (⟨256 * t.val + (rowOf a d).val, hlt⟩ : Fin 768) = feat h d := Fin.ext hr
  refine (proj_at _ _ _ _ _).trans (congrArg₂ (· + ·) (Finset.sum_congr rfl fun f _ => ?_) ?_)
  · rw [wq_at m c t _ f hlt, x_at m c t l f, hf, mul_comm]
  · rw [bq_at m c t _ hlt, hf]

theorem proj_k (t : Fin cfg0.N) (h : Fin 12) (a : Fin 4) (e : h.val = 4 * t.val + a.val) (d : Fin 64) (l : Fin 2048) :
    proj (iblk m c 0 t) (iblk m c 3 t) (iblk m c 4 t) (ix2 (rowOf a d) l)
      = feature (m ((c : Thread nD τ).loc main_arg0)) (m ((c : Thread nD τ).loc main_arg3)) (m ((c : Thread nD τ).loc main_arg4)) h d l := by
  have hr := row_feat t h a d e
  have hlt : 256 * t.val + (rowOf a d).val < 768 := hr ▸ (feat h d).isLt
  have hf : (⟨256 * t.val + (rowOf a d).val, hlt⟩ : Fin 768) = feat h d := Fin.ext hr
  refine (proj_at _ _ _ _ _).trans (congrArg₂ (· + ·) (Finset.sum_congr rfl fun f _ => ?_) ?_)
  · rw [wk_at m c t _ f hlt, x_at m c t l f, hf, mul_comm]
  · rw [bk_at m c t _ hlt, hf]

theorem proj_v (t : Fin cfg0.N) (h : Fin 12) (a : Fin 4) (e : h.val = 4 * t.val + a.val) (d : Fin 64) (l : Fin 2048) :
    proj (iblk m c 0 t) (iblk m c 5 t) (iblk m c 6 t) (ix2 (rowOf a d) l)
      = feature (m ((c : Thread nD τ).loc main_arg0)) (m ((c : Thread nD τ).loc main_arg5)) (m ((c : Thread nD τ).loc main_arg6)) h d l := by
  have hr := row_feat t h a d e
  have hlt : 256 * t.val + (rowOf a d).val < 768 := hr ▸ (feat h d).isLt
  have hf : (⟨256 * t.val + (rowOf a d).val, hlt⟩ : Fin 768) = feat h d := Fin.ext hr
  refine (proj_at _ _ _ _ _).trans (congrArg₂ (· + ·) (Finset.sum_congr rfl fun f _ => ?_) ?_)
  · rw [wv_at m c t _ f hlt, x_at m c t l f, hf, mul_comm]
  · rw [bv_at m c t _ hlt, hf]

/-- One head of one group is that head of the reference. -/
theorem grp_at (t : Fin cfg0.N) (h : Fin 12) (a : Fin 4) (e : h.val = 4 * t.val + a.val) (qr kr : Fin 64 → Fin 2048 → ℝ)
    (hq : ∀ d l, feature (m ((c : Thread nD τ).loc main_arg0)) (m ((c : Thread nD τ).loc main_arg1)) (m ((c : Thread nD τ).loc main_arg2)) h d l = qr d l)
    (hk : ∀ d l, feature (m ((c : Thread nD τ).loc main_arg0)) (m ((c : Thread nD τ).loc main_arg3)) (m ((c : Thread nD τ).loc main_arg4)) h d l = kr d l)
    (d : Fin 64) (l : Fin 2048) :
    grp m c t (ix2 (rowOf a d) l)
      = headOut qr kr (fun d l => feature (m ((c : Thread nD τ).loc main_arg0)) (m ((c : Thread nD τ).loc main_arg5)) (m ((c : Thread nD τ).loc main_arg6)) h d l) d l := by
  rw [grp, group, heads_real a (fun d l => (proj_q m c t h a e d l).trans (hq d l)) (fun d l => (proj_k m c t h a e d l).trans (hk d l))]
  exact congrArg (fun z => headOut qr kr z d l) (funext fun d => funext fun l => proj_v m c t h a e d l)

theorem grps_at (t : Fin 3) (ht : t.val < cfg0.N) :
    (![grp m c t0_0, grp m c t0_1, grp m c t0_2] : Fin 3 → FVec Ideal S256x2048 .f32) t = grp m c ⟨t.val, ht⟩ := by
  fin_cases t
  · exact congrArg (grp m c) (Fin.ext rfl)
  · exact congrArg (grp m c) (Fin.ext rfl)
  · exact congrArg (grp m c) (Fin.ext rfl)

/-- Where the projections of the queries and keys are real, the kernel's result is the reference's. -/
theorem same (hx : ∀ i, ∃ r : ℝ, m ((c : Thread nD τ).loc main_arg0) i = (r : EReal))
    (hwq : ∀ i, ∃ r : ℝ, m ((c : Thread nD τ).loc main_arg1) i = (r : EReal)) (hbq : ∀ i, ∃ r : ℝ, m ((c : Thread nD τ).loc main_arg2) i = (r : EReal))
    (hwk : ∀ i, ∃ r : ℝ, m ((c : Thread nD τ).loc main_arg3) i = (r : EReal)) (hbk : ∀ i, ∃ r : ℝ, m ((c : Thread nD τ).loc main_arg4) i = (r : EReal))
    (l : Fin 2048) (e : Fin 768) :
    outVal m c (ix2 l e) = Cert.ReferenceIdeal.Attn.whole (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (ix3 0 l e) := by
  rw [outVal, outProj_at, Cert.ReferenceIdeal.Attn.whole, Cert.ReferenceIdeal.Attn.lin_at, bo_at]
  refine congrArg (· + _) (Finset.sum_congr rfl fun f _ => ?_)
  rw [wo_at]
  refine congrArg (· * _) ?_
  obtain ⟨h, d, rfl⟩ : ∃ (h : Fin 12) (d : Fin 64), f = feat h d :=
    ⟨⟨f.val / 64, by omega⟩, ⟨f.val % 64, by omega⟩, Fin.ext (Nat.div_add_mod f.val 64).symm⟩
  obtain ⟨t, a, ha⟩ : ∃ (t : Fin 3) (a : Fin 4), h.val = 4 * t.val + a.val :=
    ⟨⟨h.val / 4, by omega⟩, ⟨h.val % 4, by omega⟩, (Nat.div_add_mod h.val 4).symm⟩
  have hN : cfg0.N = 3 := by decide +kernel
  have ht : t.val < cfg0.N := by rw [hN]; exact t.isLt
  obtain ⟨qr, hq⟩ := feature_real _ _ _ hx hwq hbq h
  obtain ⟨kr, hk⟩ := feature_real _ _ _ hx hwk hbk h
  rw [stack3_at _ _ _ _ t (rowOf a d) (feat h d) (row_feat ⟨t.val, ht⟩ h a d ha).symm l, grps_at m c t ht,
    grp_at m c ⟨t.val, ht⟩ h a ha qr kr hq hk, Cert.ReferenceIdeal.Attn.joinHeads_at,
    Cert.ReferenceIdeal.Attn.attn_real (fun d l => (split_lin _ _ _ h d l).trans (hq d l)) (fun d l => (split_lin _ _ _ h d l).trans (hk d l))]
  exact congrArg (fun z => headOut qr kr z d l) (funext fun d => funext fun l => (split_lin _ _ _ h d l).symm)

end Cert.KernelIdeal.Attn
end
-- ==== Proof.PreRead.lean ====
module

public import proofs.«01_k».proof.Pre_finite
public import Idealize.ShloMosaic.Lib.ReduceAll
public import proofs.«01_k».proof.Proof.RRead

@[expose] public section

set_option maxRecDepth 16384

/-!
The precondition read back: every entry of the input and of the query and key projections is a real number.
-/

noncomputable section

namespace Cert.Pre_finite

open Idealize.ShloMosaic

theorem facts : Cert.Pre_finite.Facts where
  bcast_S_S1x2048x768 := by decide
  reducesTo_S1x2048x768_S_d0_1_2 := by decide
  h_S_ := by decide
  bcast_S_S768x768 := by decide
  reducesTo_S768x768_S_d0_1 := by decide
  bcast_S_S768 := by decide
  reducesTo_S768_S_d0 := by decide

theorem real_of_lt (x : Ideal .f32) (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  have hlt : max (x : EReal) (-(x : EReal)) < ⊤ := by
    by_contra hn
    simp [hn] at h'
  obtain ⟨h1, h2⟩ := max_lt_iff.mp hlt
  refine ⟨EReal.toReal x, (EReal.coe_toReal h1.ne fun hb => ?_).symm⟩
  rw [hb] at h2
  exact absurd h2 (by simp)

theorem all_real {s : Shape} {axes : List (Fin s.rank)} (x : FVec Ideal s .f32) (hb) (h : s.ReducesTo axes S_) (hu) (j : S_.Idx)
    (e : Host.reduce IntOp.andi (cmpf .olt (Host.absf x) (broadcastInDim s ![] hb (constant (F := Ideal) S_ .f32 0x7F800000#32)))
      (constantI S_ 1 1#1) h hu j = 1#1) (i : s.Idx) : ∃ r : ℝ, x i = (r : EReal) := by
  haveI : Subsingleton S_.Idx := ⟨fun a b => funext fun k => k.elim0⟩
  exact real_of_lt (x i) (Host.reduce_andi_all _ _ h hu j e i)

theorem reals [Facts] (x : FVec Ideal S1x2048x768 .f32) (wq : FVec Ideal S768x768 .f32) (bq : FVec Ideal S768 .f32)
    (wk : FVec Ideal S768x768 .f32) (bk : FVec Ideal S768 .f32) (wv : FVec Ideal S768x768 .f32) (bv : FVec Ideal S768 .f32)
    (wo : FVec Ideal S768x768 .f32) (bo : FVec Ideal S768 .f32) (h : fn (F := Ideal) x wq bq wk bk wv bv wo bo = fun _ => 1#1) :
    (∀ i, ∃ r : ℝ, x i = (r : EReal)) ∧ (∀ i, ∃ r : ℝ, wq i = (r : EReal)) ∧ (∀ i, ∃ r : ℝ, bq i = (r : EReal)) ∧ (∀ i, ∃ r : ℝ, wk i = (r : EReal))
      ∧ (∀ i, ∃ r : ℝ, bk i = (r : EReal)) := by
  have h0 := congrFun h (fun k => k.elim0)
  dsimp only [fn, fn_part1] at h0
  obtain ⟨h0, h5⟩ := IntOp.andi_eq_one.1 h0
  obtain ⟨h0, h4⟩ := IntOp.andi_eq_one.1 h0
  obtain ⟨h0, h3⟩ := IntOp.andi_eq_one.1 h0
  obtain ⟨h1, h2⟩ := IntOp.andi_eq_one.1 h0
  exact ⟨all_real _ _ _ _ _ h1, all_real _ _ _ _ _ h2, all_real _ _ _ _ _ h3, all_real _ _ _ _ _ h4, all_real _ _ _ _ _ h5⟩

end Cert.Pre_finite
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Both
public import proofs.«01_k».proof.Proof.Same
public import proofs.«01_k».proof.Proof.PreRead
public import Idealize.ShloMosaic.Adequacy
public import Idealize.ShloMosaic.Init

@[expose] public section

set_option maxRecDepth 16384

noncomputable section

namespace Cert.Proof

open Idealize.ShloMosaic Idealize.SL.Sem

set_option maxHeartbeats 1600000 in
/-- The reference runs to its end and leaves its arguments as they were. -/
theorem reference_runs : quiescent_ReferenceIdeal (hReferenceIdeal := Cert.ReferenceIdeal.Gen.facts) := by
  intro m g _
  hlo_run
  · exact fun _ => ⟨trivial, trivial, trivial, trivial, trivial, trivial, trivial, trivial, trivial⟩
  · exact sem_eq_zero_of_no_sems (sig := Cert.ReferenceIdeal.sig) (by decide) _

/-- The kernel over the reals ends with what the reference computes. -/
theorem result (hPre_finite : Cert.Pre_finite.Facts)
    (m : (ℓ : Loc Cert.KernelIdeal.nD Cert.KernelIdeal.τ Cert.KernelIdeal.sig) → Buf (Elt Ideal) ℓ)
    (hpre : Pre_KernelIdeal_finite m) (c : Dev Cert.KernelIdeal.nD) :
    Cert.ReferenceIdeal.Attn.whole (F := Ideal) (m (c.tc.loc Cert.KernelIdeal.main_arg0)) (m (c.tc.loc Cert.KernelIdeal.main_arg1))
      (m (c.tc.loc Cert.KernelIdeal.main_arg2)) (m (c.tc.loc Cert.KernelIdeal.main_arg3)) (m (c.tc.loc Cert.KernelIdeal.main_arg4))
      (m (c.tc.loc Cert.KernelIdeal.main_arg5)) (m (c.tc.loc Cert.KernelIdeal.main_arg6)) (m (c.tc.loc Cert.KernelIdeal.main_arg7))
      (m (c.tc.loc Cert.KernelIdeal.main_arg8))
      = Pipeline.afterTail₀ Cert.KernelIdeal.cfgs (Cert.KernelIdeal.Attn.dats m) 0 (Cert.KernelIdeal.Gen.V0 m)
          [Cert.KernelIdeal.Gen.hostOps1] c Cert.KernelIdeal.main_v6 := by
  obtain ⟨hx, hwq, hbq, hwk, hbk⟩ := Cert.Pre_finite.reals _ _ _ _ _ _ _ _ _ (hpre c)
  funext i
  obtain ⟨z, l, e, rfl⟩ : ∃ (z : Fin 1) (l : Fin 2048) (e : Fin 768), i = ix3 z l e := ⟨i 0, i 1, i 2, by
    funext a
    fin_cases a <;> rfl⟩
  obtain rfl : z = 0 := Subsingleton.elim _ _
  exact ((Cert.KernelIdeal.Attn.result_at m c l e).trans (Cert.KernelIdeal.Attn.same m c hx hwq hbq hwk hbk l e)).symm

set_option maxHeartbeats 1600000 in
/-- On finite projections the kernel and the reference, run over the extended reals, return equal arrays. -/
theorem algebraic (hPre_finite : Cert.Pre_finite.Facts) : algebraic_KernelIdeal_ReferenceIdeal_pre_finite
    (hKernelIdeal := Cert.KernelIdeal.Gen.facts) (hReferenceIdeal := Cert.ReferenceIdeal.Gen.facts) (hPre_finite := hPre_finite) := by
  pair_intro
  · run_from (θ_run _ _ _).mono (fun _ h => h.1) (Cert.KernelIdeal.Attn.run_all m g)
    · exact Cert.KernelIdeal.Gen.W_main_arg0 m _ _
    · exact Cert.KernelIdeal.Gen.W_main_arg2 m _ _
    · exact Cert.KernelIdeal.Gen.W_main_arg4 m _ _
    · exact Cert.KernelIdeal.Gen.W_main_arg6 m _ _
    · exact Cert.KernelIdeal.Gen.W_main_arg8 m _ _
  · hlo_run
    refine Eq.trans ?_ (result hPre_finite m hpre c)
    simp only [StableHlo.TRef.ofBuf_toBuf]
    simp only [StableHlo.TRef.ofBuf, StableHlo.TRef.toBuf, cast_eq]
    rfl

/-- All the claims of the certificate. -/
theorem claim : Cert.Claim :=
  ⟨Cert.Kernel.Gen.facts, Cert.KernelIdeal.Gen.facts, Cert.ReferenceIdeal.Gen.facts, Cert.Pre_finite.facts,
    kernel_runs, fun m g _ => Cert.KernelIdeal.Attn.frame m g, fun m g _ => Cert.KernelIdeal.Attn.frame m g,
    reference_runs, fun m g _ => reference_runs m g trivial, trivial, algebraic _⟩

end Cert.Proof

end
